-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1536x1024 : Shape := ⟨2, ![1536, 1024]⟩
abbrev S160x1024 : Shape := ⟨2, ![160, 1024]⟩
abbrev S16x160x1024 : Shape := ⟨3, ![16, 160, 1024]⟩
abbrev S_ : Shape := ⟨0, ![]⟩
abbrev S2 : Shape := ⟨1, ![2]⟩
abbrev S16 : Shape := ⟨1, ![16]⟩
abbrev S14 : Shape := ⟨1, ![14]⟩
abbrev S1 : Shape := ⟨1, ![1]⟩
abbrev S80x1024 : Shape := ⟨2, ![80, 1024]⟩
abbrev S1x80x1024 : Shape := ⟨3, ![1, 80, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S1536x1024, .f32⟩
  | .local _ .vmem, ⟨3, _⟩ => ⟨S160x1024, .f32⟩
  | .local _ .vmem, ⟨4, _⟩ => ⟨S16x160x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_148 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_147 : BitVec 32 := 16#32
  let v163 : BitVec 32 := Scalar.muli v9 c16_i32_147
  let v164 : BitVec 32 := Scalar.addi c0_i32_148 v163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_149 : BitVec 32 := 4#32
  let v165 : BitVec 32 := Scalar.muli v5 c4_i32_149
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v167 : BitVec 32 := Scalar.muli v8 c1_i32_150
  let v168 : BitVec 32 := Scalar.addi v166 v167
  v168.toNat
def k0_dev2 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_152 : BitVec 32 := 16#32
  let v169 : BitVec 32 := Scalar.muli v2 c16_i32_152
  let v170 : BitVec 32 := Scalar.addi c0_i32_153 v169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_154 : BitVec 32 := 4#32
  let v171 : BitVec 32 := Scalar.muli v71 c4_i32_154
  let v172 : BitVec 32 := Scalar.addi v170 v171
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_155 : BitVec 32 := 1#32
  let v173 : BitVec 32 := Scalar.muli v101 c1_i32_155
  let v174 : BitVec 32 := Scalar.addi v172 v173
  v174.toNat
def k0_dev3 (d0 : Dev nD) : Nat :=
  let c0_i32_158 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_157 : BitVec 32 := 16#32
  let v175 : BitVec 32 := Scalar.muli v2 c16_i32_157
  let v176 : BitVec 32 := Scalar.addi c0_i32_158 v175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_159 : BitVec 32 := 4#32
  let v177 : BitVec 32 := Scalar.muli v131 c4_i32_159
  let v178 : BitVec 32 := Scalar.addi v176 v177
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_160 : BitVec 32 := 1#32
  let v179 : BitVec 32 := Scalar.muli v161 c1_i32_160
  let v180 : BitVec 32 := Scalar.addi v178 v179
  v180.toNat
def k0_off1 (d0 : Dev nD) (c0_i32_162 : BitVec 32) : Fin 2 → Nat :=
  let c1536_i32 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c160_i32 : BitVec 32 := 160#32
  let v181 : BitVec 32 := Scalar.muli v41 c160_i32
  let v182 : BitVec 32 := Scalar.addi c1536_i32 v181
  let v183 : BitVec 32 := Scalar.addi v182 c0_i32_162
  let c0_i32_171 : BitVec 32 := 0#32
  ![v183.toNat, 0]
def k0_dev4 (d0 : Dev nD) : Nat :=
  let c0_i32_166 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_165 : BitVec 32 := 16#32
  let v184 : BitVec 32 := Scalar.muli v9 c16_i32_165
  let v185 : BitVec 32 := Scalar.addi c0_i32_166 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v186 : BitVec 32 := Scalar.muli v5 c4_i32_167
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v188 : BitVec 32 := Scalar.muli v8 c1_i32_168
  let v189 : BitVec 32 := Scalar.addi v187 v188
  v189.toNat
def k0_dev5 (d0 : Dev nD) : Nat :=
  let c0_i32_177 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_176 : BitVec 32 := 16#32
  let v199 : BitVec 32 := Scalar.muli v9 c16_i32_176
  let v200 : BitVec 32 := Scalar.addi c0_i32_177 v199
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_178 : BitVec 32 := 4#32
  let v201 : BitVec 32 := Scalar.muli v5 c4_i32_178
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v203 : BitVec 32 := Scalar.muli v8 c1_i32_179
  let v204 : BitVec 32 := Scalar.addi v202 v203
  v204.toNat
def k0_dev6 (d0 : Dev nD) : Nat :=
  let c0_i32_184 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_183 : BitVec 32 := 16#32
  let v211 : BitVec 32 := Scalar.muli v9 c16_i32_183
  let v212 : BitVec 32 := Scalar.addi c0_i32_184 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_185 : BitVec 32 := 4#32
  let v213 : BitVec 32 := Scalar.muli v5 c4_i32_185
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v215 : BitVec 32 := Scalar.muli v8 c1_i32_186
  let v216 : BitVec 32 := Scalar.addi v214 v215
  v216.toNat
def k0_off2 (d0 : Dev nD) (c0_i32_206 : BitVec 32) : Fin 2 → Nat :=
  let c1536_i32_205 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c160_i32_204 : BitVec 32 := 160#32
  let v232 : BitVec 32 := Scalar.muli v41 c160_i32_204
  let v233 : BitVec 32 := Scalar.addi c1536_i32_205 v232
  let v234 : BitVec 32 := Scalar.addi v233 c0_i32_206
  let v235 : Index := Scalar.indexCast v234
  let c0 : Index := 0#32
  ![v235.toNat, 0]
def k0_off3 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let v240 : Index := Scalar.indexCast v41
  let c0_209 : Index := 0#32
  let c0_210 : Index := 0#32
  ![v240.toNat, 0, 0]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c0_i32_217 : BitVec 32 := 0#32
  let c0_i32_218 : BitVec 32 := 0#32
  ![v41.toNat, 0, 0]
def k0_dev7 (d0 : Dev nD) : Nat :=
  let c0_i32_214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_213 : BitVec 32 := 16#32
  let v244 : BitVec 32 := Scalar.muli v2 c16_i32_213
  let v245 : BitVec 32 := Scalar.addi c0_i32_214 v244
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_215 : BitVec 32 := 4#32
  let v246 : BitVec 32 := Scalar.muli v71 c4_i32_215
  let v247 : BitVec 32 := Scalar.addi v245 v246
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_216 : BitVec 32 := 1#32
  let v248 : BitVec 32 := Scalar.muli v101 c1_i32_216
  let v249 : BitVec 32 := Scalar.addi v247 v248
  v249.toNat
def k0_dev8 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v258 : BitVec 32 := Scalar.muli v2 c16_i32_223
  let v259 : BitVec 32 := Scalar.addi c0_i32_224 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_225 : BitVec 32 := 4#32
  let v260 : BitVec 32 := Scalar.muli v131 c4_i32_225
  let v261 : BitVec 32 := Scalar.addi v259 v260
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_226 : BitVec 32 := 1#32
  let v262 : BitVec 32 := Scalar.muli v161 c1_i32_226
  let v263 : BitVec 32 := Scalar.addi v261 v262
  v263.toNat
def k0_off5 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let v294 : Index := Scalar.indexCast v41
  let c80_251 : Index := 80#32
  let c0_252 : Index := 0#32
  ![v294.toNat, 80, 0]
def k0_off6 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c80_i32_259 : BitVec 32 := 80#32
  let c0_i32_260 : BitVec 32 := 0#32
  ![v41.toNat, 80, 0]
def k0_dev9 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v298 : BitVec 32 := Scalar.muli v2 c16_i32_255
  let v299 : BitVec 32 := Scalar.addi c0_i32_256 v298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_257 : BitVec 32 := 4#32
  let v300 : BitVec 32 := Scalar.muli v71 c4_i32_257
  let v301 : BitVec 32 := Scalar.addi v299 v300
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_258 : BitVec 32 := 1#32
  let v302 : BitVec 32 := Scalar.muli v101 c1_i32_258
  let v303 : BitVec 32 := Scalar.addi v301 v302
  v303.toNat
def k0_dev10 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v312 : BitVec 32 := Scalar.muli v2 c16_i32_265
  let v313 : BitVec 32 := Scalar.addi c0_i32_266 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_267 : BitVec 32 := 4#32
  let v314 : BitVec 32 := Scalar.muli v131 c4_i32_267
  let v315 : BitVec 32 := Scalar.addi v313 v314
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_268 : BitVec 32 := 1#32
  let v316 : BitVec 32 := Scalar.muli v161 c1_i32_268
  let v317 : BitVec 32 := Scalar.addi v315 v316
  v317.toNat
def k0_off7 (d0 : Dev nD) (c0_i32_286 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_285 : BitVec 32 := 1#32
  let v342 : BitVec 32 := Scalar.subi v41 c1_i32_285
  let v343 : BitVec 32 := Scalar.subi v342 c0_i32_286
  let c16_i32_287 : BitVec 32 := 16#32
  let c0_i32_288 : BitVec 32 := 0#32
  let v344 : BitVec 1 := Scalar.cmpi .eq c16_i32_287 c0_i32_288
  let c1_i32_289 : BitVec 32 := 1#32
  let v345 : BitVec 32 := Scalar.select v344 c1_i32_289 c16_i32_287
  let v346 : BitVec 32 := Scalar.remsi v343 v345
  let c0_i32_291 : BitVec 32 := 0#32
  let v348 : BitVec 1 := Scalar.cmpi .slt v346 c0_i32_291
  let c0_i32_292 : BitVec 32 := 0#32
  let v349 : BitVec 1 := Scalar.cmpi .slt v345 c0_i32_292
  let v350 : BitVec 1 := Scalar.xori v348 v349
  let c0_i32_290 : BitVec 32 := 0#32
  let v347 : BitVec 1 := Scalar.cmpi .ne v346 c0_i32_290
  let v351 : BitVec 1 := Scalar.andi v350 v347
  let v352 : BitVec 32 := Scalar.addi v346 v345
  let v353 : BitVec 32 := Scalar.select v351 v352 v346
  let c0_i32_299 : BitVec 32 := 0#32
  let c0_i32_300 : BitVec 32 := 0#32
  ![v353.toNat, 0, 0]
def k0_dev11 (d0 : Dev nD) : Nat :=
  let c0_i32_306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_305 : BitVec 32 := 16#32
  let v366 : BitVec 32 := Scalar.muli v2 c16_i32_305
  let v367 : BitVec 32 := Scalar.addi c0_i32_306 v366
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_307 : BitVec 32 := 4#32
  let v368 : BitVec 32 := Scalar.muli v71 c4_i32_307
  let v369 : BitVec 32 := Scalar.addi v367 v368
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_308 : BitVec 32 := 1#32
  let v370 : BitVec 32 := Scalar.muli v101 c1_i32_308
  let v371 : BitVec 32 := Scalar.addi v369 v370
  v371.toNat
def k0_off8 (d0 : Dev nD) (c0_i32_314 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_313 : BitVec 32 := 1#32
  let v380 : BitVec 32 := Scalar.addi v41 c1_i32_313
  let v381 : BitVec 32 := Scalar.addi v380 c0_i32_314
  let c16_i32_315 : BitVec 32 := 16#32
  let c0_i32_316 : BitVec 32 := 0#32
  let v382 : BitVec 1 := Scalar.cmpi .eq c16_i32_315 c0_i32_316
  let c1_i32_317 : BitVec 32 := 1#32
  let v383 : BitVec 32 := Scalar.select v382 c1_i32_317 c16_i32_315
  let v384 : BitVec 32 := Scalar.remsi v381 v383
  let c0_i32_319 : BitVec 32 := 0#32
  let v386 : BitVec 1 := Scalar.cmpi .slt v384 c0_i32_319
  let c0_i32_320 : BitVec 32 := 0#32
  let v387 : BitVec 1 := Scalar.cmpi .slt v383 c0_i32_320
  let v388 : BitVec 1 := Scalar.xori v386 v387
  let c0_i32_318 : BitVec 32 := 0#32
  let v385 : BitVec 1 := Scalar.cmpi .ne v384 c0_i32_318
  let v389 : BitVec 1 := Scalar.andi v388 v385
  let v390 : BitVec 32 := Scalar.addi v384 v383
  let v391 : BitVec 32 := Scalar.select v389 v390 v384
  let c0_i32_327 : BitVec 32 := 0#32
  let c0_i32_328 : BitVec 32 := 0#32
  ![v391.toNat, 0, 0]
def k0_dev12 (d0 : Dev nD) : Nat :=
  let c0_i32_334 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_333 : BitVec 32 := 16#32
  let v404 : BitVec 32 := Scalar.muli v2 c16_i32_333
  let v405 : BitVec 32 := Scalar.addi c0_i32_334 v404
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_335 : BitVec 32 := 4#32
  let v406 : BitVec 32 := Scalar.muli v131 c4_i32_335
  let v407 : BitVec 32 := Scalar.addi v405 v406
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_336 : BitVec 32 := 1#32
  let v408 : BitVec 32 := Scalar.muli v161 c1_i32_336
  let v409 : BitVec 32 := Scalar.addi v407 v408
  v409.toNat
def k0_off9 (d0 : Dev nD) (c0_i32_286 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_285 : BitVec 32 := 1#32
  let v342 : BitVec 32 := Scalar.subi v41 c1_i32_285
  let v343 : BitVec 32 := Scalar.subi v342 c0_i32_286
  let c16_i32_287 : BitVec 32 := 16#32
  let c0_i32_288 : BitVec 32 := 0#32
  let v344 : BitVec 1 := Scalar.cmpi .eq c16_i32_287 c0_i32_288
  let c1_i32_289 : BitVec 32 := 1#32
  let v345 : BitVec 32 := Scalar.select v344 c1_i32_289 c16_i32_287
  let v346 : BitVec 32 := Scalar.remsi v343 v345
  let c0_i32_291 : BitVec 32 := 0#32
  let v348 : BitVec 1 := Scalar.cmpi .slt v346 c0_i32_291
  let c0_i32_292 : BitVec 32 := 0#32
  let v349 : BitVec 1 := Scalar.cmpi .slt v345 c0_i32_292
  let v350 : BitVec 1 := Scalar.xori v348 v349
  let c0_i32_290 : BitVec 32 := 0#32
  let v347 : BitVec 1 := Scalar.cmpi .ne v346 c0_i32_290
  let v351 : BitVec 1 := Scalar.andi v350 v347
  let v352 : BitVec 32 := Scalar.addi v346 v345
  let v353 : BitVec 32 := Scalar.select v351 v352 v346
  let v418 : Index := Scalar.indexCast v353
  let c0_341 : Index := 0#32
  let c0_342 : Index := 0#32
  ![v418.toNat, 0, 0]
def k0_off10 (d0 : Dev nD) (c0_i32_286 : BitVec 32) (c0_i32_345 : BitVec 32) : Fin 2 → Nat :=
  let c1536_i32_344 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_285 : BitVec 32 := 1#32
  let v342 : BitVec 32 := Scalar.subi v41 c1_i32_285
  let v343 : BitVec 32 := Scalar.subi v342 c0_i32_286
  let c16_i32_287 : BitVec 32 := 16#32
  let c0_i32_288 : BitVec 32 := 0#32
  let v344 : BitVec 1 := Scalar.cmpi .eq c16_i32_287 c0_i32_288
  let c1_i32_289 : BitVec 32 := 1#32
  let v345 : BitVec 32 := Scalar.select v344 c1_i32_289 c16_i32_287
  let v346 : BitVec 32 := Scalar.remsi v343 v345
  let c0_i32_291 : BitVec 32 := 0#32
  let v348 : BitVec 1 := Scalar.cmpi .slt v346 c0_i32_291
  let c0_i32_292 : BitVec 32 := 0#32
  let v349 : BitVec 1 := Scalar.cmpi .slt v345 c0_i32_292
  let v350 : BitVec 1 := Scalar.xori v348 v349
  let c0_i32_290 : BitVec 32 := 0#32
  let v347 : BitVec 1 := Scalar.cmpi .ne v346 c0_i32_290
  let v351 : BitVec 1 := Scalar.andi v350 v347
  let v352 : BitVec 32 := Scalar.addi v346 v345
  let v353 : BitVec 32 := Scalar.select v351 v352 v346
  let c160_i32_343 : BitVec 32 := 160#32
  let v421 : BitVec 32 := Scalar.muli v353 c160_i32_343
  let v422 : BitVec 32 := Scalar.addi c1536_i32_344 v421
  let v423 : BitVec 32 := Scalar.addi v422 c0_i32_345
  let v424 : Index := Scalar.indexCast v423
  let c0_346 : Index := 0#32
  ![v424.toNat, 0]
def k0_off11 (d0 : Dev nD) (c0_i32_314 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_313 : BitVec 32 := 1#32
  let v380 : BitVec 32 := Scalar.addi v41 c1_i32_313
  let v381 : BitVec 32 := Scalar.addi v380 c0_i32_314
  let c16_i32_315 : BitVec 32 := 16#32
  let c0_i32_316 : BitVec 32 := 0#32
  let v382 : BitVec 1 := Scalar.cmpi .eq c16_i32_315 c0_i32_316
  let c1_i32_317 : BitVec 32 := 1#32
  let v383 : BitVec 32 := Scalar.select v382 c1_i32_317 c16_i32_315
  let v384 : BitVec 32 := Scalar.remsi v381 v383
  let c0_i32_319 : BitVec 32 := 0#32
  let v386 : BitVec 1 := Scalar.cmpi .slt v384 c0_i32_319
  let c0_i32_320 : BitVec 32 := 0#32
  let v387 : BitVec 1 := Scalar.cmpi .slt v383 c0_i32_320
  let v388 : BitVec 1 := Scalar.xori v386 v387
  let c0_i32_318 : BitVec 32 := 0#32
  let v385 : BitVec 1 := Scalar.cmpi .ne v384 c0_i32_318
  let v389 : BitVec 1 := Scalar.andi v388 v385
  let v390 : BitVec 32 := Scalar.addi v384 v383
  let v391 : BitVec 32 := Scalar.select v389 v390 v384
  let v426 : Index := Scalar.indexCast v391
  let c0_347 : Index := 0#32
  let c0_348 : Index := 0#32
  ![v426.toNat, 0, 0]
def k0_off12 (d0 : Dev nD) (c0_i32_314 : BitVec 32) (c0_i32_351 : BitVec 32) : Fin 2 → Nat :=
  let c1536_i32_350 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_313 : BitVec 32 := 1#32
  let v380 : BitVec 32 := Scalar.addi v41 c1_i32_313
  let v381 : BitVec 32 := Scalar.addi v380 c0_i32_314
  let c16_i32_315 : BitVec 32 := 16#32
  let c0_i32_316 : BitVec 32 := 0#32
  let v382 : BitVec 1 := Scalar.cmpi .eq c16_i32_315 c0_i32_316
  let c1_i32_317 : BitVec 32 := 1#32
  let v383 : BitVec 32 := Scalar.select v382 c1_i32_317 c16_i32_315
  let v384 : BitVec 32 := Scalar.remsi v381 v383
  let c0_i32_319 : BitVec 32 := 0#32
  let v386 : BitVec 1 := Scalar.cmpi .slt v384 c0_i32_319
  let c0_i32_320 : BitVec 32 := 0#32
  let v387 : BitVec 1 := Scalar.cmpi .slt v383 c0_i32_320
  let v388 : BitVec 1 := Scalar.xori v386 v387
  let c0_i32_318 : BitVec 32 := 0#32
  let v385 : BitVec 1 := Scalar.cmpi .ne v384 c0_i32_318
  let v389 : BitVec 1 := Scalar.andi v388 v385
  let v390 : BitVec 32 := Scalar.addi v384 v383
  let v391 : BitVec 32 := Scalar.select v389 v390 v384
  let c160_i32_349 : BitVec 32 := 160#32
  let v429 : BitVec 32 := Scalar.muli v391 c160_i32_349
  let v430 : BitVec 32 := Scalar.addi c1536_i32_350 v429
  let v431 : BitVec 32 := Scalar.addi v430 c0_i32_351
  let v432 : Index := Scalar.indexCast v431
  let c0_352 : Index := 0#32
  ![v432.toNat, 0]
def k0_off13 (d0 : Dev nD) (c0_i32_354 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_353 : BitVec 32 := 1#32
  let v434 : BitVec 32 := Scalar.subi v41 c1_i32_353
  let v435 : BitVec 32 := Scalar.subi v434 c0_i32_354
  let c16_i32_355 : BitVec 32 := 16#32
  let c0_i32_356 : BitVec 32 := 0#32
  let v436 : BitVec 1 := Scalar.cmpi .eq c16_i32_355 c0_i32_356
  let c1_i32_357 : BitVec 32 := 1#32
  let v437 : BitVec 32 := Scalar.select v436 c1_i32_357 c16_i32_355
  let v438 : BitVec 32 := Scalar.remsi v435 v437
  let c0_i32_359 : BitVec 32 := 0#32
  let v440 : BitVec 1 := Scalar.cmpi .slt v438 c0_i32_359
  let c0_i32_360 : BitVec 32 := 0#32
  let v441 : BitVec 1 := Scalar.cmpi .slt v437 c0_i32_360
  let v442 : BitVec 1 := Scalar.xori v440 v441
  let c0_i32_358 : BitVec 32 := 0#32
  let v439 : BitVec 1 := Scalar.cmpi .ne v438 c0_i32_358
  let v443 : BitVec 1 := Scalar.andi v442 v439
  let v444 : BitVec 32 := Scalar.addi v438 v437
  let v445 : BitVec 32 := Scalar.select v443 v444 v438
  let c80_i32_367 : BitVec 32 := 80#32
  let c0_i32_368 : BitVec 32 := 0#32
  ![v445.toNat, 80, 0]
def k0_dev13 (d0 : Dev nD) : Nat :=
  let c0_i32_374 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_373 : BitVec 32 := 16#32
  let v458 : BitVec 32 := Scalar.muli v2 c16_i32_373
  let v459 : BitVec 32 := Scalar.addi c0_i32_374 v458
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_375 : BitVec 32 := 4#32
  let v460 : BitVec 32 := Scalar.muli v71 c4_i32_375
  let v461 : BitVec 32 := Scalar.addi v459 v460
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_376 : BitVec 32 := 1#32
  let v462 : BitVec 32 := Scalar.muli v101 c1_i32_376
  let v463 : BitVec 32 := Scalar.addi v461 v462
  v463.toNat
def k0_off14 (d0 : Dev nD) (c0_i32_382 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_381 : BitVec 32 := 1#32
  let v472 : BitVec 32 := Scalar.addi v41 c1_i32_381
  let v473 : BitVec 32 := Scalar.addi v472 c0_i32_382
  let c16_i32_383 : BitVec 32 := 16#32
  let c0_i32_384 : BitVec 32 := 0#32
  let v474 : BitVec 1 := Scalar.cmpi .eq c16_i32_383 c0_i32_384
  let c1_i32_385 : BitVec 32 := 1#32
  let v475 : BitVec 32 := Scalar.select v474 c1_i32_385 c16_i32_383
  let v476 : BitVec 32 := Scalar.remsi v473 v475
  let c0_i32_387 : BitVec 32 := 0#32
  let v478 : BitVec 1 := Scalar.cmpi .slt v476 c0_i32_387
  let c0_i32_388 : BitVec 32 := 0#32
  let v479 : BitVec 1 := Scalar.cmpi .slt v475 c0_i32_388
  let v480 : BitVec 1 := Scalar.xori v478 v479
  let c0_i32_386 : BitVec 32 := 0#32
  let v477 : BitVec 1 := Scalar.cmpi .ne v476 c0_i32_386
  let v481 : BitVec 1 := Scalar.andi v480 v477
  let v482 : BitVec 32 := Scalar.addi v476 v475
  let v483 : BitVec 32 := Scalar.select v481 v482 v476
  let c80_i32_395 : BitVec 32 := 80#32
  let c0_i32_396 : BitVec 32 := 0#32
  ![v483.toNat, 80, 0]
def k0_dev14 (d0 : Dev nD) : Nat :=
  let c0_i32_402 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_401 : BitVec 32 := 16#32
  let v496 : BitVec 32 := Scalar.muli v2 c16_i32_401
  let v497 : BitVec 32 := Scalar.addi c0_i32_402 v496
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_403 : BitVec 32 := 4#32
  let v498 : BitVec 32 := Scalar.muli v131 c4_i32_403
  let v499 : BitVec 32 := Scalar.addi v497 v498
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_404 : BitVec 32 := 1#32
  let v500 : BitVec 32 := Scalar.muli v161 c1_i32_404
  let v501 : BitVec 32 := Scalar.addi v499 v500
  v501.toNat
def k0_off15 (d0 : Dev nD) (c0_i32_354 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_353 : BitVec 32 := 1#32
  let v434 : BitVec 32 := Scalar.subi v41 c1_i32_353
  let v435 : BitVec 32 := Scalar.subi v434 c0_i32_354
  let c16_i32_355 : BitVec 32 := 16#32
  let c0_i32_356 : BitVec 32 := 0#32
  let v436 : BitVec 1 := Scalar.cmpi .eq c16_i32_355 c0_i32_356
  let c1_i32_357 : BitVec 32 := 1#32
  let v437 : BitVec 32 := Scalar.select v436 c1_i32_357 c16_i32_355
  let v438 : BitVec 32 := Scalar.remsi v435 v437
  let c0_i32_359 : BitVec 32 := 0#32
  let v440 : BitVec 1 := Scalar.cmpi .slt v438 c0_i32_359
  let c0_i32_360 : BitVec 32 := 0#32
  let v441 : BitVec 1 := Scalar.cmpi .slt v437 c0_i32_360
  let v442 : BitVec 1 := Scalar.xori v440 v441
  let c0_i32_358 : BitVec 32 := 0#32
  let v439 : BitVec 1 := Scalar.cmpi .ne v438 c0_i32_358
  let v443 : BitVec 1 := Scalar.andi v442 v439
  let v444 : BitVec 32 := Scalar.addi v438 v437
  let v445 : BitVec 32 := Scalar.select v443 v444 v438
  let v510 : Index := Scalar.indexCast v445
  let c80_409 : Index := 80#32
  let c0_410 : Index := 0#32
  ![v510.toNat, 80, 0]
def k0_off16 (d0 : Dev nD) (c0_i32_382 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c1_i32_381 : BitVec 32 := 1#32
  let v472 : BitVec 32 := Scalar.addi v41 c1_i32_381
  let v473 : BitVec 32 := Scalar.addi v472 c0_i32_382
  let c16_i32_383 : BitVec 32 := 16#32
  let c0_i32_384 : BitVec 32 := 0#32
  let v474 : BitVec 1 := Scalar.cmpi .eq c16_i32_383 c0_i32_384
  let c1_i32_385 : BitVec 32 := 1#32
  let v475 : BitVec 32 := Scalar.select v474 c1_i32_385 c16_i32_383
  let v476 : BitVec 32 := Scalar.remsi v473 v475
  let c0_i32_387 : BitVec 32 := 0#32
  let v478 : BitVec 1 := Scalar.cmpi .slt v476 c0_i32_387
  let c0_i32_388 : BitVec 32 := 0#32
  let v479 : BitVec 1 := Scalar.cmpi .slt v475 c0_i32_388
  let v480 : BitVec 1 := Scalar.xori v478 v479
  let c0_i32_386 : BitVec 32 := 0#32
  let v477 : BitVec 1 := Scalar.cmpi .ne v476 c0_i32_386
  let v481 : BitVec 1 := Scalar.andi v480 v477
  let v482 : BitVec 32 := Scalar.addi v476 v475
  let v483 : BitVec 32 := Scalar.select v481 v482 v476
  let v518 : Index := Scalar.indexCast v483
  let c80_415 : Index := 80#32
  let c0_416 : Index := 0#32
  ![v518.toNat, 80, 0]
def k0_dev15 (d0 : Dev nD) : Nat :=
  let c0_i32_442 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_441 : BitVec 32 := 16#32
  let v550 : BitVec 32 := Scalar.muli v2 c16_i32_441
  let v551 : BitVec 32 := Scalar.addi c0_i32_442 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_443 : BitVec 32 := 4#32
  let v552 : BitVec 32 := Scalar.muli v71 c4_i32_443
  let v553 : BitVec 32 := Scalar.addi v551 v552
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_444 : BitVec 32 := 1#32
  let v554 : BitVec 32 := Scalar.muli v101 c1_i32_444
  let v555 : BitVec 32 := Scalar.addi v553 v554
  v555.toNat
def k0_dev16 (d0 : Dev nD) : Nat :=
  let c0_i32_470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_469 : BitVec 32 := 16#32
  let v588 : BitVec 32 := Scalar.muli v2 c16_i32_469
  let v589 : BitVec 32 := Scalar.addi c0_i32_470 v588
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_471 : BitVec 32 := 4#32
  let v590 : BitVec 32 := Scalar.muli v131 c4_i32_471
  let v591 : BitVec 32 := Scalar.addi v589 v590
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_472 : BitVec 32 := 1#32
  let v592 : BitVec 32 := Scalar.muli v161 c1_i32_472
  let v593 : BitVec 32 := Scalar.addi v591 v592
  v593.toNat
def k0_dev17 (d0 : Dev nD) : Nat :=
  let c0_i32_510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_509 : BitVec 32 := 16#32
  let v642 : BitVec 32 := Scalar.muli v2 c16_i32_509
  let v643 : BitVec 32 := Scalar.addi c0_i32_510 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_511 : BitVec 32 := 4#32
  let v644 : BitVec 32 := Scalar.muli v71 c4_i32_511
  let v645 : BitVec 32 := Scalar.addi v643 v644
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_512 : BitVec 32 := 1#32
  let v646 : BitVec 32 := Scalar.muli v101 c1_i32_512
  let v647 : BitVec 32 := Scalar.addi v645 v646
  v647.toNat
def k0_dev18 (d0 : Dev nD) : Nat :=
  let c0_i32_538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_537 : BitVec 32 := 16#32
  let v680 : BitVec 32 := Scalar.muli v2 c16_i32_537
  let v681 : BitVec 32 := Scalar.addi c0_i32_538 v680
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_539 : BitVec 32 := 4#32
  let v682 : BitVec 32 := Scalar.muli v131 c4_i32_539
  let v683 : BitVec 32 := Scalar.addi v681 v682
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_540 : BitVec 32 := 1#32
  let v684 : BitVec 32 := Scalar.muli v161 c1_i32_540
  let v685 : BitVec 32 := Scalar.addi v683 v684
  v685.toNat
def k0_dev19 (d0 : Dev nD) : Nat :=
  let c0_i32_578 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_577 : BitVec 32 := 16#32
  let v734 : BitVec 32 := Scalar.muli v2 c16_i32_577
  let v735 : BitVec 32 := Scalar.addi c0_i32_578 v734
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_579 : BitVec 32 := 4#32
  let v736 : BitVec 32 := Scalar.muli v71 c4_i32_579
  let v737 : BitVec 32 := Scalar.addi v735 v736
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_580 : BitVec 32 := 1#32
  let v738 : BitVec 32 := Scalar.muli v101 c1_i32_580
  let v739 : BitVec 32 := Scalar.addi v737 v738
  v739.toNat
def k0_dev20 (d0 : Dev nD) : Nat :=
  let c0_i32_606 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_605 : BitVec 32 := 16#32
  let v772 : BitVec 32 := Scalar.muli v2 c16_i32_605
  let v773 : BitVec 32 := Scalar.addi c0_i32_606 v772
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_607 : BitVec 32 := 4#32
  let v774 : BitVec 32 := Scalar.muli v131 c4_i32_607
  let v775 : BitVec 32 := Scalar.addi v773 v774
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_608 : BitVec 32 := 1#32
  let v776 : BitVec 32 := Scalar.muli v161 c1_i32_608
  let v777 : BitVec 32 := Scalar.addi v775 v776
  v777.toNat
def k0_dev21 (d0 : Dev nD) : Nat :=
  let c0_i32_646 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_645 : BitVec 32 := 16#32
  let v826 : BitVec 32 := Scalar.muli v2 c16_i32_645
  let v827 : BitVec 32 := Scalar.addi c0_i32_646 v826
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_647 : BitVec 32 := 4#32
  let v828 : BitVec 32 := Scalar.muli v71 c4_i32_647
  let v829 : BitVec 32 := Scalar.addi v827 v828
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_648 : BitVec 32 := 1#32
  let v830 : BitVec 32 := Scalar.muli v101 c1_i32_648
  let v831 : BitVec 32 := Scalar.addi v829 v830
  v831.toNat
def k0_dev22 (d0 : Dev nD) : Nat :=
  let c0_i32_674 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_673 : BitVec 32 := 16#32
  let v864 : BitVec 32 := Scalar.muli v2 c16_i32_673
  let v865 : BitVec 32 := Scalar.addi c0_i32_674 v864
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_675 : BitVec 32 := 4#32
  let v866 : BitVec 32 := Scalar.muli v131 c4_i32_675
  let v867 : BitVec 32 := Scalar.addi v865 v866
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_676 : BitVec 32 := 1#32
  let v868 : BitVec 32 := Scalar.muli v161 c1_i32_676
  let v869 : BitVec 32 := Scalar.addi v867 v868
  v869.toNat
def k0_dev23 (d0 : Dev nD) : Nat :=
  let c0_i32_714 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_713 : BitVec 32 := 16#32
  let v918 : BitVec 32 := Scalar.muli v2 c16_i32_713
  let v919 : BitVec 32 := Scalar.addi c0_i32_714 v918
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_715 : BitVec 32 := 4#32
  let v920 : BitVec 32 := Scalar.muli v71 c4_i32_715
  let v921 : BitVec 32 := Scalar.addi v919 v920
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_716 : BitVec 32 := 1#32
  let v922 : BitVec 32 := Scalar.muli v101 c1_i32_716
  let v923 : BitVec 32 := Scalar.addi v921 v922
  v923.toNat
def k0_dev24 (d0 : Dev nD) : Nat :=
  let c0_i32_742 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_741 : BitVec 32 := 16#32
  let v956 : BitVec 32 := Scalar.muli v2 c16_i32_741
  let v957 : BitVec 32 := Scalar.addi c0_i32_742 v956
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_743 : BitVec 32 := 4#32
  let v958 : BitVec 32 := Scalar.muli v131 c4_i32_743
  let v959 : BitVec 32 := Scalar.addi v957 v958
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_744 : BitVec 32 := 1#32
  let v960 : BitVec 32 := Scalar.muli v161 c1_i32_744
  let v961 : BitVec 32 := Scalar.addi v959 v960
  v961.toNat
def k0_dev25 (d0 : Dev nD) : Nat :=
  let c0_i32_782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_781 : BitVec 32 := 16#32
  let v1010 : BitVec 32 := Scalar.muli v2 c16_i32_781
  let v1011 : BitVec 32 := Scalar.addi c0_i32_782 v1010
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_783 : BitVec 32 := 4#32
  let v1012 : BitVec 32 := Scalar.muli v71 c4_i32_783
  let v1013 : BitVec 32 := Scalar.addi v1011 v1012
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_784 : BitVec 32 := 1#32
  let v1014 : BitVec 32 := Scalar.muli v101 c1_i32_784
  let v1015 : BitVec 32 := Scalar.addi v1013 v1014
  v1015.toNat
def k0_dev26 (d0 : Dev nD) : Nat :=
  let c0_i32_810 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_809 : BitVec 32 := 16#32
  let v1048 : BitVec 32 := Scalar.muli v2 c16_i32_809
  let v1049 : BitVec 32 := Scalar.addi c0_i32_810 v1048
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_811 : BitVec 32 := 4#32
  let v1050 : BitVec 32 := Scalar.muli v131 c4_i32_811
  let v1051 : BitVec 32 := Scalar.addi v1049 v1050
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_812 : BitVec 32 := 1#32
  let v1052 : BitVec 32 := Scalar.muli v161 c1_i32_812
  let v1053 : BitVec 32 := Scalar.addi v1051 v1052
  v1053.toNat
def k0_dev27 (d0 : Dev nD) : Nat :=
  let c0_i32_850 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_849 : BitVec 32 := 16#32
  let v1102 : BitVec 32 := Scalar.muli v2 c16_i32_849
  let v1103 : BitVec 32 := Scalar.addi c0_i32_850 v1102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_851 : BitVec 32 := 4#32
  let v1104 : BitVec 32 := Scalar.muli v71 c4_i32_851
  let v1105 : BitVec 32 := Scalar.addi v1103 v1104
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_852 : BitVec 32 := 1#32
  let v1106 : BitVec 32 := Scalar.muli v101 c1_i32_852
  let v1107 : BitVec 32 := Scalar.addi v1105 v1106
  v1107.toNat
def k0_dev28 (d0 : Dev nD) : Nat :=
  let c0_i32_878 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_877 : BitVec 32 := 16#32
  let v1140 : BitVec 32 := Scalar.muli v2 c16_i32_877
  let v1141 : BitVec 32 := Scalar.addi c0_i32_878 v1140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_879 : BitVec 32 := 4#32
  let v1142 : BitVec 32 := Scalar.muli v131 c4_i32_879
  let v1143 : BitVec 32 := Scalar.addi v1141 v1142
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_880 : BitVec 32 := 1#32
  let v1144 : BitVec 32 := Scalar.muli v161 c1_i32_880
  let v1145 : BitVec 32 := Scalar.addi v1143 v1144
  v1145.toNat
def k0_dev29 (d0 : Dev nD) : Nat :=
  let c0_i32_918 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_917 : BitVec 32 := 16#32
  let v1194 : BitVec 32 := Scalar.muli v2 c16_i32_917
  let v1195 : BitVec 32 := Scalar.addi c0_i32_918 v1194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_919 : BitVec 32 := 4#32
  let v1196 : BitVec 32 := Scalar.muli v71 c4_i32_919
  let v1197 : BitVec 32 := Scalar.addi v1195 v1196
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_920 : BitVec 32 := 1#32
  let v1198 : BitVec 32 := Scalar.muli v101 c1_i32_920
  let v1199 : BitVec 32 := Scalar.addi v1197 v1198
  v1199.toNat
def k0_dev30 (d0 : Dev nD) : Nat :=
  let c0_i32_946 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_945 : BitVec 32 := 16#32
  let v1232 : BitVec 32 := Scalar.muli v2 c16_i32_945
  let v1233 : BitVec 32 := Scalar.addi c0_i32_946 v1232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_947 : BitVec 32 := 4#32
  let v1234 : BitVec 32 := Scalar.muli v131 c4_i32_947
  let v1235 : BitVec 32 := Scalar.addi v1233 v1234
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_948 : BitVec 32 := 1#32
  let v1236 : BitVec 32 := Scalar.muli v161 c1_i32_948
  let v1237 : BitVec 32 := Scalar.addi v1235 v1236
  v1237.toNat
def k0_dev31 (d0 : Dev nD) : Nat :=
  let c0_i32_986 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_985 : BitVec 32 := 16#32
  let v1286 : BitVec 32 := Scalar.muli v2 c16_i32_985
  let v1287 : BitVec 32 := Scalar.addi c0_i32_986 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_987 : BitVec 32 := 4#32
  let v1288 : BitVec 32 := Scalar.muli v71 c4_i32_987
  let v1289 : BitVec 32 := Scalar.addi v1287 v1288
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_988 : BitVec 32 := 1#32
  let v1290 : BitVec 32 := Scalar.muli v101 c1_i32_988
  let v1291 : BitVec 32 := Scalar.addi v1289 v1290
  v1291.toNat
def k0_dev32 (d0 : Dev nD) : Nat :=
  let c0_i32_1014 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1013 : BitVec 32 := 16#32
  let v1324 : BitVec 32 := Scalar.muli v2 c16_i32_1013
  let v1325 : BitVec 32 := Scalar.addi c0_i32_1014 v1324
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_1015 : BitVec 32 := 4#32
  let v1326 : BitVec 32 := Scalar.muli v131 c4_i32_1015
  let v1327 : BitVec 32 := Scalar.addi v1325 v1326
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_1016 : BitVec 32 := 1#32
  let v1328 : BitVec 32 := Scalar.muli v161 c1_i32_1016
  let v1329 : BitVec 32 := Scalar.addi v1327 v1328
  v1329.toNat
def k0_dev33 (d0 : Dev nD) : Nat :=
  let c0_i32_1054 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1053 : BitVec 32 := 16#32
  let v1378 : BitVec 32 := Scalar.muli v2 c16_i32_1053
  let v1379 : BitVec 32 := Scalar.addi c0_i32_1054 v1378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_1055 : BitVec 32 := 4#32
  let v1380 : BitVec 32 := Scalar.muli v71 c4_i32_1055
  let v1381 : BitVec 32 := Scalar.addi v1379 v1380
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_1056 : BitVec 32 := 1#32
  let v1382 : BitVec 32 := Scalar.muli v101 c1_i32_1056
  let v1383 : BitVec 32 := Scalar.addi v1381 v1382
  v1383.toNat
def k0_dev34 (d0 : Dev nD) : Nat :=
  let c0_i32_1082 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1081 : BitVec 32 := 16#32
  let v1416 : BitVec 32 := Scalar.muli v2 c16_i32_1081
  let v1417 : BitVec 32 := Scalar.addi c0_i32_1082 v1416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_113 : BitVec 32 := 15#32
  let v130 : BitVec 1 := Scalar.cmpi .eq v41 c15_i32_113
  let c0_i32_114 : BitVec 32 := 0#32
  let c14_i32_111 : BitVec 32 := 14#32
  let v128 : BitVec 1 := Scalar.cmpi .eq v41 c14_i32_111
  let c0_i32_112 : BitVec 32 := 0#32
  let c13_i32_109 : BitVec 32 := 13#32
  let v126 : BitVec 1 := Scalar.cmpi .eq v41 c13_i32_109
  let c1_i32_110 : BitVec 32 := 1#32
  let c12_i32_107 : BitVec 32 := 12#32
  let v124 : BitVec 1 := Scalar.cmpi .eq v41 c12_i32_107
  let c2_i32_108 : BitVec 32 := 2#32
  let c11_i32_105 : BitVec 32 := 11#32
  let v122 : BitVec 1 := Scalar.cmpi .eq v41 c11_i32_105
  let c3_i32_106 : BitVec 32 := 3#32
  let c10_i32_103 : BitVec 32 := 10#32
  let v120 : BitVec 1 := Scalar.cmpi .eq v41 c10_i32_103
  let c3_i32_104 : BitVec 32 := 3#32
  let c9_i32_101 : BitVec 32 := 9#32
  let v118 : BitVec 1 := Scalar.cmpi .eq v41 c9_i32_101
  let c2_i32_102 : BitVec 32 := 2#32
  let c8_i32_99 : BitVec 32 := 8#32
  let v116 : BitVec 1 := Scalar.cmpi .eq v41 c8_i32_99
  let c1_i32_100 : BitVec 32 := 1#32
  let c7_i32_97 : BitVec 32 := 7#32
  let v114 : BitVec 1 := Scalar.cmpi .eq v41 c7_i32_97
  let c1_i32_98 : BitVec 32 := 1#32
  let c6_i32_95 : BitVec 32 := 6#32
  let v112 : BitVec 1 := Scalar.cmpi .eq v41 c6_i32_95
  let c2_i32_96 : BitVec 32 := 2#32
  let c5_i32_93 : BitVec 32 := 5#32
  let v110 : BitVec 1 := Scalar.cmpi .eq v41 c5_i32_93
  let c3_i32_94 : BitVec 32 := 3#32
  let c4_i32_91 : BitVec 32 := 4#32
  let v108 : BitVec 1 := Scalar.cmpi .eq v41 c4_i32_91
  let c3_i32_92 : BitVec 32 := 3#32
  let c3_i32_89 : BitVec 32 := 3#32
  let v106 : BitVec 1 := Scalar.cmpi .eq v41 c3_i32_89
  let c2_i32_90 : BitVec 32 := 2#32
  let c2_i32_87 : BitVec 32 := 2#32
  let v104 : BitVec 1 := Scalar.cmpi .eq v41 c2_i32_87
  let c1_i32_88 : BitVec 32 := 1#32
  let c1_i32_84 : BitVec 32 := 1#32
  let v102 : BitVec 1 := Scalar.cmpi .eq v41 c1_i32_84
  let c0_i32_85 : BitVec 32 := 0#32
  let c0_i32_86 : BitVec 32 := 0#32
  let v103 : BitVec 32 := Scalar.select v102 c0_i32_85 c0_i32_86
  let v105 : BitVec 32 := Scalar.select v104 c1_i32_88 v103
  let v107 : BitVec 32 := Scalar.select v106 c2_i32_90 v105
  let v109 : BitVec 32 := Scalar.select v108 c3_i32_92 v107
  let v111 : BitVec 32 := Scalar.select v110 c3_i32_94 v109
  let v113 : BitVec 32 := Scalar.select v112 c2_i32_96 v111
  let v115 : BitVec 32 := Scalar.select v114 c1_i32_98 v113
  let v117 : BitVec 32 := Scalar.select v116 c1_i32_100 v115
  let v119 : BitVec 32 := Scalar.select v118 c2_i32_102 v117
  let v121 : BitVec 32 := Scalar.select v120 c3_i32_104 v119
  let v123 : BitVec 32 := Scalar.select v122 c3_i32_106 v121
  let v125 : BitVec 32 := Scalar.select v124 c2_i32_108 v123
  let v127 : BitVec 32 := Scalar.select v126 c1_i32_110 v125
  let v129 : BitVec 32 := Scalar.select v128 c0_i32_112 v127
  let v131 : BitVec 32 := Scalar.select v130 c0_i32_114 v129
  let c4_i32_1083 : BitVec 32 := 4#32
  let v1418 : BitVec 32 := Scalar.muli v131 c4_i32_1083
  let v1419 : BitVec 32 := Scalar.addi v1417 v1418
  let c15_i32_144 : BitVec 32 := 15#32
  let v160 : BitVec 1 := Scalar.cmpi .eq v41 c15_i32_144
  let c2_i32_145 : BitVec 32 := 2#32
  let c14_i32_142 : BitVec 32 := 14#32
  let v158 : BitVec 1 := Scalar.cmpi .eq v41 c14_i32_142
  let c3_i32_143 : BitVec 32 := 3#32
  let c13_i32_140 : BitVec 32 := 13#32
  let v156 : BitVec 1 := Scalar.cmpi .eq v41 c13_i32_140
  let c3_i32_141 : BitVec 32 := 3#32
  let c12_i32_138 : BitVec 32 := 12#32
  let v154 : BitVec 1 := Scalar.cmpi .eq v41 c12_i32_138
  let c3_i32_139 : BitVec 32 := 3#32
  let c11_i32_136 : BitVec 32 := 11#32
  let v152 : BitVec 1 := Scalar.cmpi .eq v41 c11_i32_136
  let c3_i32_137 : BitVec 32 := 3#32
  let c10_i32_134 : BitVec 32 := 10#32
  let v150 : BitVec 1 := Scalar.cmpi .eq v41 c10_i32_134
  let c2_i32_135 : BitVec 32 := 2#32
  let c9_i32_132 : BitVec 32 := 9#32
  let v148 : BitVec 1 := Scalar.cmpi .eq v41 c9_i32_132
  let c2_i32_133 : BitVec 32 := 2#32
  let c8_i32_130 : BitVec 32 := 8#32
  let v146 : BitVec 1 := Scalar.cmpi .eq v41 c8_i32_130
  let c2_i32_131 : BitVec 32 := 2#32
  let c7_i32_128 : BitVec 32 := 7#32
  let v144 : BitVec 1 := Scalar.cmpi .eq v41 c7_i32_128
  let c1_i32_129 : BitVec 32 := 1#32
  let c6_i32_126 : BitVec 32 := 6#32
  let v142 : BitVec 1 := Scalar.cmpi .eq v41 c6_i32_126
  let c1_i32_127 : BitVec 32 := 1#32
  let c5_i32_124 : BitVec 32 := 5#32
  let v140 : BitVec 1 := Scalar.cmpi .eq v41 c5_i32_124
  let c1_i32_125 : BitVec 32 := 1#32
  let c4_i32_122 : BitVec 32 := 4#32
  let v138 : BitVec 1 := Scalar.cmpi .eq v41 c4_i32_122
  let c0_i32_123 : BitVec 32 := 0#32
  let c3_i32_120 : BitVec 32 := 3#32
  let v136 : BitVec 1 := Scalar.cmpi .eq v41 c3_i32_120
  let c0_i32_121 : BitVec 32 := 0#32
  let c2_i32_118 : BitVec 32 := 2#32
  let v134 : BitVec 1 := Scalar.cmpi .eq v41 c2_i32_118
  let c0_i32_119 : BitVec 32 := 0#32
  let c1_i32_115 : BitVec 32 := 1#32
  let v132 : BitVec 1 := Scalar.cmpi .eq v41 c1_i32_115
  let c0_i32_116 : BitVec 32 := 0#32
  let c1_i32_117 : BitVec 32 := 1#32
  let v133 : BitVec 32 := Scalar.select v132 c0_i32_116 c1_i32_117
  let v135 : BitVec 32 := Scalar.select v134 c0_i32_119 v133
  let v137 : BitVec 32 := Scalar.select v136 c0_i32_121 v135
  let v139 : BitVec 32 := Scalar.select v138 c0_i32_123 v137
  let v141 : BitVec 32 := Scalar.select v140 c1_i32_125 v139
  let v143 : BitVec 32 := Scalar.select v142 c1_i32_127 v141
  let v145 : BitVec 32 := Scalar.select v144 c1_i32_129 v143
  let v147 : BitVec 32 := Scalar.select v146 c2_i32_131 v145
  let v149 : BitVec 32 := Scalar.select v148 c2_i32_133 v147
  let v151 : BitVec 32 := Scalar.select v150 c2_i32_135 v149
  let v153 : BitVec 32 := Scalar.select v152 c3_i32_137 v151
  let v155 : BitVec 32 := Scalar.select v154 c3_i32_139 v153
  let v157 : BitVec 32 := Scalar.select v156 c3_i32_141 v155
  let v159 : BitVec 32 := Scalar.select v158 c3_i32_143 v157
  let v161 : BitVec 32 := Scalar.select v160 c2_i32_145 v159
  let c1_i32_1084 : BitVec 32 := 1#32
  let v1420 : BitVec 32 := Scalar.muli v161 c1_i32_1084
  let v1421 : BitVec 32 := Scalar.addi v1419 v1420
  v1421.toNat
def k0_dev35 (d0 : Dev nD) : Nat :=
  let c0_i32_1122 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1121 : BitVec 32 := 16#32
  let v1470 : BitVec 32 := Scalar.muli v2 c16_i32_1121
  let v1471 : BitVec 32 := Scalar.addi c0_i32_1122 v1470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_1123 : BitVec 32 := 4#32
  let v1472 : BitVec 32 := Scalar.muli v71 c4_i32_1123
  let v1473 : BitVec 32 := Scalar.addi v1471 v1472
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_1124 : BitVec 32 := 1#32
  let v1474 : BitVec 32 := Scalar.muli v101 c1_i32_1124
  let v1475 : BitVec 32 := Scalar.addi v1473 v1474
  v1475.toNat
def k0_dev36 (d0 : Dev nD) : Nat :=
  let c0_i32_1180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1179 : BitVec 32 := 16#32
  let v1548 : BitVec 32 := Scalar.muli v2 c16_i32_1179
  let v1549 : BitVec 32 := Scalar.addi c0_i32_1180 v1548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c15_i32_20 : BitVec 32 := 15#32
  let v40 : BitVec 1 := Scalar.cmpi .eq v11 c15_i32_20
  let c10_i32_21 : BitVec 32 := 10#32
  let c14_i32_18 : BitVec 32 := 14#32
  let v38 : BitVec 1 := Scalar.cmpi .eq v11 c14_i32_18
  let c9_i32_19 : BitVec 32 := 9#32
  let c13_i32_16 : BitVec 32 := 13#32
  let v36 : BitVec 1 := Scalar.cmpi .eq v11 c13_i32_16
  let c4_i32_17 : BitVec 32 := 4#32
  let c12_i32_14 : BitVec 32 := 12#32
  let v34 : BitVec 1 := Scalar.cmpi .eq v11 c12_i32_14
  let c3_i32_15 : BitVec 32 := 3#32
  let c11_i32 : BitVec 32 := 11#32
  let v32 : BitVec 1 := Scalar.cmpi .eq v11 c11_i32
  let c11_i32_13 : BitVec 32 := 11#32
  let c10_i32 : BitVec 32 := 10#32
  let v30 : BitVec 1 := Scalar.cmpi .eq v11 c10_i32
  let c8_i32_12 : BitVec 32 := 8#32
  let c9_i32 : BitVec 32 := 9#32
  let v28 : BitVec 1 := Scalar.cmpi .eq v11 c9_i32
  let c5_i32_11 : BitVec 32 := 5#32
  let c8_i32 : BitVec 32 := 8#32
  let v26 : BitVec 1 := Scalar.cmpi .eq v11 c8_i32
  let c2_i32_10 : BitVec 32 := 2#32
  let c7_i32_9 : BitVec 32 := 7#32
  let v24 : BitVec 1 := Scalar.cmpi .eq v11 c7_i32_9
  let c12_i32 : BitVec 32 := 12#32
  let c6_i32_8 : BitVec 32 := 6#32
  let v22 : BitVec 1 := Scalar.cmpi .eq v11 c6_i32_8
  let c7_i32 : BitVec 32 := 7#32
  let c5_i32 : BitVec 32 := 5#32
  let v20 : BitVec 1 := Scalar.cmpi .eq v11 c5_i32
  let c6_i32 : BitVec 32 := 6#32
  let c4_i32_6 : BitVec 32 := 4#32
  let v18 : BitVec 1 := Scalar.cmpi .eq v11 c4_i32_6
  let c1_i32_7 : BitVec 32 := 1#32
  let c3_i32 : BitVec 32 := 3#32
  let v16 : BitVec 1 := Scalar.cmpi .eq v11 c3_i32
  let c13_i32 : BitVec 32 := 13#32
  let c2_i32_5 : BitVec 32 := 2#32
  let v14 : BitVec 1 := Scalar.cmpi .eq v11 c2_i32_5
  let c14_i32 : BitVec 32 := 14#32
  let c1_i32_4 : BitVec 32 := 1#32
  let v12 : BitVec 1 := Scalar.cmpi .eq v11 c1_i32_4
  let c15_i32 : BitVec 32 := 15#32
  let c0_i32 : BitVec 32 := 0#32
  let v13 : BitVec 32 := Scalar.select v12 c15_i32 c0_i32
  let v15 : BitVec 32 := Scalar.select v14 c14_i32 v13
  let v17 : BitVec 32 := Scalar.select v16 c13_i32 v15
  let v19 : BitVec 32 := Scalar.select v18 c1_i32_7 v17
  let v21 : BitVec 32 := Scalar.select v20 c6_i32 v19
  let v23 : BitVec 32 := Scalar.select v22 c7_i32 v21
  let v25 : BitVec 32 := Scalar.select v24 c12_i32 v23
  let v27 : BitVec 32 := Scalar.select v26 c2_i32_10 v25
  let v29 : BitVec 32 := Scalar.select v28 c5_i32_11 v27
  let v31 : BitVec 32 := Scalar.select v30 c8_i32_12 v29
  let v33 : BitVec 32 := Scalar.select v32 c11_i32_13 v31
  let v35 : BitVec 32 := Scalar.select v34 c3_i32_15 v33
  let v37 : BitVec 32 := Scalar.select v36 c4_i32_17 v35
  let v39 : BitVec 32 := Scalar.select v38 c9_i32_19 v37
  let v41 : BitVec 32 := Scalar.select v40 c10_i32_21 v39
  let c15_i32_51 : BitVec 32 := 15#32
  let v70 : BitVec 1 := Scalar.cmpi .eq v41 c15_i32_51
  let c0_i32_52 : BitVec 32 := 0#32
  let c14_i32_49 : BitVec 32 := 14#32
  let v68 : BitVec 1 := Scalar.cmpi .eq v41 c14_i32_49
  let c0_i32_50 : BitVec 32 := 0#32
  let c13_i32_47 : BitVec 32 := 13#32
  let v66 : BitVec 1 := Scalar.cmpi .eq v41 c13_i32_47
  let c0_i32_48 : BitVec 32 := 0#32
  let c12_i32_45 : BitVec 32 := 12#32
  let v64 : BitVec 1 := Scalar.cmpi .eq v41 c12_i32_45
  let c0_i32_46 : BitVec 32 := 0#32
  let c11_i32_43 : BitVec 32 := 11#32
  let v62 : BitVec 1 := Scalar.cmpi .eq v41 c11_i32_43
  let c1_i32_44 : BitVec 32 := 1#32
  let c10_i32_41 : BitVec 32 := 10#32
  let v60 : BitVec 1 := Scalar.cmpi .eq v41 c10_i32_41
  let c2_i32_42 : BitVec 32 := 2#32
  let c9_i32_39 : BitVec 32 := 9#32
  let v58 : BitVec 1 := Scalar.cmpi .eq v41 c9_i32_39
  let c3_i32_40 : BitVec 32 := 3#32
  let c8_i32_37 : BitVec 32 := 8#32
  let v56 : BitVec 1 := Scalar.cmpi .eq v41 c8_i32_37
  let c3_i32_38 : BitVec 32 := 3#32
  let c7_i32_35 : BitVec 32 := 7#32
  let v54 : BitVec 1 := Scalar.cmpi .eq v41 c7_i32_35
  let c2_i32_36 : BitVec 32 := 2#32
  let c6_i32_33 : BitVec 32 := 6#32
  let v52 : BitVec 1 := Scalar.cmpi .eq v41 c6_i32_33
  let c1_i32_34 : BitVec 32 := 1#32
  let c5_i32_31 : BitVec 32 := 5#32
  let v50 : BitVec 1 := Scalar.cmpi .eq v41 c5_i32_31
  let c1_i32_32 : BitVec 32 := 1#32
  let c4_i32_29 : BitVec 32 := 4#32
  let v48 : BitVec 1 := Scalar.cmpi .eq v41 c4_i32_29
  let c2_i32_30 : BitVec 32 := 2#32
  let c3_i32_27 : BitVec 32 := 3#32
  let v46 : BitVec 1 := Scalar.cmpi .eq v41 c3_i32_27
  let c3_i32_28 : BitVec 32 := 3#32
  let c2_i32_25 : BitVec 32 := 2#32
  let v44 : BitVec 1 := Scalar.cmpi .eq v41 c2_i32_25
  let c3_i32_26 : BitVec 32 := 3#32
  let c1_i32_22 : BitVec 32 := 1#32
  let v42 : BitVec 1 := Scalar.cmpi .eq v41 c1_i32_22
  let c2_i32_23 : BitVec 32 := 2#32
  let c1_i32_24 : BitVec 32 := 1#32
  let v43 : BitVec 32 := Scalar.select v42 c2_i32_23 c1_i32_24
  let v45 : BitVec 32 := Scalar.select v44 c3_i32_26 v43
  let v47 : BitVec 32 := Scalar.select v46 c3_i32_28 v45
  let v49 : BitVec 32 := Scalar.select v48 c2_i32_30 v47
  let v51 : BitVec 32 := Scalar.select v50 c1_i32_32 v49
  let v53 : BitVec 32 := Scalar.select v52 c1_i32_34 v51
  let v55 : BitVec 32 := Scalar.select v54 c2_i32_36 v53
  let v57 : BitVec 32 := Scalar.select v56 c3_i32_38 v55
  let v59 : BitVec 32 := Scalar.select v58 c3_i32_40 v57
  let v61 : BitVec 32 := Scalar.select v60 c2_i32_42 v59
  let v63 : BitVec 32 := Scalar.select v62 c1_i32_44 v61
  let v65 : BitVec 32 := Scalar.select v64 c0_i32_46 v63
  let v67 : BitVec 32 := Scalar.select v66 c0_i32_48 v65
  let v69 : BitVec 32 := Scalar.select v68 c0_i32_50 v67
  let v71 : BitVec 32 := Scalar.select v70 c0_i32_52 v69
  let c4_i32_1181 : BitVec 32 := 4#32
  let v1550 : BitVec 32 := Scalar.muli v71 c4_i32_1181
  let v1551 : BitVec 32 := Scalar.addi v1549 v1550
  let c15_i32_82 : BitVec 32 := 15#32
  let v100 : BitVec 1 := Scalar.cmpi .eq v41 c15_i32_82
  let c0_i32_83 : BitVec 32 := 0#32
  let c14_i32_80 : BitVec 32 := 14#32
  let v98 : BitVec 1 := Scalar.cmpi .eq v41 c14_i32_80
  let c1_i32_81 : BitVec 32 := 1#32
  let c13_i32_78 : BitVec 32 := 13#32
  let v96 : BitVec 1 := Scalar.cmpi .eq v41 c13_i32_78
  let c2_i32_79 : BitVec 32 := 2#32
  let c12_i32_76 : BitVec 32 := 12#32
  let v94 : BitVec 1 := Scalar.cmpi .eq v41 c12_i32_76
  let c3_i32_77 : BitVec 32 := 3#32
  let c11_i32_74 : BitVec 32 := 11#32
  let v92 : BitVec 1 := Scalar.cmpi .eq v41 c11_i32_74
  let c3_i32_75 : BitVec 32 := 3#32
  let c10_i32_72 : BitVec 32 := 10#32
  let v90 : BitVec 1 := Scalar.cmpi .eq v41 c10_i32_72
  let c3_i32_73 : BitVec 32 := 3#32
  let c9_i32_70 : BitVec 32 := 9#32
  let v88 : BitVec 1 := Scalar.cmpi .eq v41 c9_i32_70
  let c3_i32_71 : BitVec 32 := 3#32
  let c8_i32_68 : BitVec 32 := 8#32
  let v86 : BitVec 1 := Scalar.cmpi .eq v41 c8_i32_68
  let c2_i32_69 : BitVec 32 := 2#32
  let c7_i32_66 : BitVec 32 := 7#32
  let v84 : BitVec 1 := Scalar.cmpi .eq v41 c7_i32_66
  let c2_i32_67 : BitVec 32 := 2#32
  let c6_i32_64 : BitVec 32 := 6#32
  let v82 : BitVec 1 := Scalar.cmpi .eq v41 c6_i32_64
  let c2_i32_65 : BitVec 32 := 2#32
  let c5_i32_62 : BitVec 32 := 5#32
  let v80 : BitVec 1 := Scalar.cmpi .eq v41 c5_i32_62
  let c1_i32_63 : BitVec 32 := 1#32
  let c4_i32_60 : BitVec 32 := 4#32
  let v78 : BitVec 1 := Scalar.cmpi .eq v41 c4_i32_60
  let c1_i32_61 : BitVec 32 := 1#32
  let c3_i32_58 : BitVec 32 := 3#32
  let v76 : BitVec 1 := Scalar.cmpi .eq v41 c3_i32_58
  let c1_i32_59 : BitVec 32 := 1#32
  let c2_i32_56 : BitVec 32 := 2#32
  let v74 : BitVec 1 := Scalar.cmpi .eq v41 c2_i32_56
  let c0_i32_57 : BitVec 32 := 0#32
  let c1_i32_53 : BitVec 32 := 1#32
  let v72 : BitVec 1 := Scalar.cmpi .eq v41 c1_i32_53
  let c0_i32_54 : BitVec 32 := 0#32
  let c0_i32_55 : BitVec 32 := 0#32
  let v73 : BitVec 32 := Scalar.select v72 c0_i32_54 c0_i32_55
  let v75 : BitVec 32 := Scalar.select v74 c0_i32_57 v73
  let v77 : BitVec 32 := Scalar.select v76 c1_i32_59 v75
  let v79 : BitVec 32 := Scalar.select v78 c1_i32_61 v77
  let v81 : BitVec 32 := Scalar.select v80 c1_i32_63 v79
  let v83 : BitVec 32 := Scalar.select v82 c2_i32_65 v81
  let v85 : BitVec 32 := Scalar.select v84 c2_i32_67 v83
  let v87 : BitVec 32 := Scalar.select v86 c2_i32_69 v85
  let v89 : BitVec 32 := Scalar.select v88 c3_i32_71 v87
  let v91 : BitVec 32 := Scalar.select v90 c3_i32_73 v89
  let v93 : BitVec 32 := Scalar.select v92 c3_i32_75 v91
  let v95 : BitVec 32 := Scalar.select v94 c3_i32_77 v93
  let v97 : BitVec 32 := Scalar.select v96 c2_i32_79 v95
  let v99 : BitVec 32 := Scalar.select v98 c1_i32_81 v97
  let v101 : BitVec 32 := Scalar.select v100 c0_i32_83 v99
  let c1_i32_1182 : BitVec 32 := 1#32
  let v1552 : BitVec 32 := Scalar.muli v101 c1_i32_1182
  let v1553 : BitVec 32 := Scalar.addi v1551 v1552
  v1553.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
The devices, the cycle and the transfers of the all-reduce kernel, as numbers.

The 32 devices form a mesh of 2 x 4 x 4: device `16 x + 4 y + z`. The sixteen devices with one `x` lie on a cycle
through their `(y, z)` plane. Each device makes 33 remote copies, numbered here in the order it starts them: 0 and 1
send its two halves of its own chunk of `x` to its partner (the device with the other `x`), 2 sends the direct rows
to its partner, and 3 to 32 send pieces of the summed chunks to the next (`right`) and the previous (`left`) device on
the cycle. This module gives the tables of those transfers and reads the kernel's computed device numbers and offsets
off in their terms.
-/
module

public import proofs.«01_k».proof.Proof.Gen.KernelIdeal
public import proofs.«01_k».proof.Proof.Gen.KernelIdeal.Skeleton

@[expose] public section

namespace Cert.AllReduce

open Cert.KernelIdeal Cert.KernelIdeal.Gen
open Idealize.ShloMosaic Idealize.ShloMosaic.TcCoe

/-! ## The devices -/

/-- The cycle position of the device whose index in its plane is `i`. -/
def posN (i : Nat) : Nat := [0, 15, 14, 13, 1, 6, 7, 12, 2, 5, 8, 11, 3, 4, 9, 10].getD (i % 16) 0

/-- The plane index of the device at cycle position `p`. -/
def atN (p : Nat) : Nat := [0, 4, 8, 12, 13, 9, 5, 6, 10, 14, 15, 11, 7, 3, 2, 1].getD (p % 16) 0

/-- The cycle position of device `c`. -/
def pos (c : Dev nD) : Fin 16 := Fin.ofNat 16 (posN c.val)

/-- The device of `c`'s plane at cycle position `o`. -/
def org (c : Dev nD) (o : Fin 16) : Dev nD := Fin.ofNat 32 (16 * (c.val / 16) + atN o.val)

/-- The device with the other `x`. -/
def partner (c : Dev nD) : Dev nD := Fin.ofNat 32 (c.val + 16)

/-- The next device on the cycle. -/
def right (c : Dev nD) : Dev nD := org c (pos c + 1)

/-- The previous device on the cycle. -/
def left (c : Dev nD) : Dev nD := org c (pos c + 15)

/-- The three neighbours: partner, next, previous. -/
def nb (c : Dev nD) : Fin 3 → Dev nD
  | 0 => partner c
  | 1 => right c
  | 2 => left c

/-- Which neighbour a device is of its `d`th neighbour. -/
def opp : Fin 3 → Fin 3
  | 0 => 0
  | 1 => 2
  | 2 => 1

/-- A device is the `opp d`th neighbour of its `d`th neighbour. -/
theorem nb_opp : ∀ (d : Fin 3) (c : Dev nD), nb (nb c d) (opp d) = c := by decide +kernel
/-- `opp` undoes itself. -/
theorem opp_opp : ∀ d : Fin 3, opp (opp d) = d := by decide
/-- A device is at its own position. -/
theorem org_pos : ∀ c : Dev nD, org c (pos c) = c := by decide +kernel
/-- The device at a position has that position. -/
theorem pos_org : ∀ (c : Dev nD) (o : Fin 16), pos (org c o) = o := by decide +kernel
/-- All devices of a plane mean the same device by a position. -/
theorem org_org : ∀ (c : Dev nD) (o o' : Fin 16), org (org c o) o' = org c o' := by decide +kernel
/-- The partner's plane is the plane of the partners. -/
theorem org_partner : ∀ (c : Dev nD) (o : Fin 16), org (partner c) o = partner (org c o) := by decide +kernel
/-- Partners have the same position. -/
theorem pos_partner : ∀ c : Dev nD, pos (partner c) = pos c := by decide +kernel
/-- The partner's partner is the device. -/
theorem partner_partner : ∀ c : Dev nD, partner (partner c) = c := by decide +kernel
/-- The next device is in the same plane. -/
theorem org_right : ∀ (c : Dev nD) (o : Fin 16), org (right c) o = org c o := fun c o => org_org c _ o
/-- The previous device is in the same plane. -/
theorem org_left : ∀ (c : Dev nD) (o : Fin 16), org (left c) o = org c o := fun c o => org_org c _ o

/-- Going to the `d`th neighbour permutes the devices. -/
def nbEquiv (d : Fin 3) : Dev nD ≃ Dev nD :=
  ⟨fun c => nb c d, fun c => nb c (opp d), fun c => nb_opp d c, fun c => by
    have := nb_opp (opp d) c; rwa [opp_opp] at this⟩

/-! ## The transfers -/

/-- The clockwise transfer of hop `t`. -/
def cwK (t : Nat) : Fin 33 := Fin.ofNat 33 (if t < 15 then 3 + 2 * t else 32)
/-- The counter-clockwise transfer of hop `t`. -/
def ccwK (t : Nat) : Fin 33 := Fin.ofNat 33 (4 + 2 * t)

/-- Whether a ring transfer goes clockwise. -/
def isCw (k : Fin 33) : Bool := 31 ≤ k.val || k.val % 2 == 1
/-- The hop number of a ring transfer. -/
def hop (k : Fin 33) : Nat := if 31 ≤ k.val then k.val - 17 else (k.val - 3) / 2

/-- The neighbour transfer `k` goes to. -/
def via (k : Fin 33) : Fin 3 := if k.val < 3 then 0 else if isCw k then 1 else 2

/-- The device transfer `k` of device `c` goes to. -/
def dst (c : Dev nD) (k : Fin 33) : Dev nD := nb c (via k)

/-- How far along the cycle from a device lies the origin of the piece its `k`th transfer brings it. For `k` 1 and 2
    the device's own two pieces. -/
def rel (k : Fin 33) : Fin 16 :=
  Fin.ofNat 16 (if k.val < 3 then 0 else if isCw k then 15 - hop k / 2 else 1 + hop k / 2)

/-- The half of the chunk the piece is. -/
def sub (k : Fin 33) : Fin 2 := Fin.ofNat 2 (if k.val < 3 then k.val - 1 else hop k)

/-- The piece of the ring buffer transfer `k` brings device `c`. -/
def slot (c : Dev nD) (k : Fin 33) : Fin 16 × Fin 2 := (pos c + rel k, sub k)

/-- The half of the chunk that transfers 0 and 1 carry. -/
def half (k : Fin 33) : Fin 2 := Fin.ofNat 2 k.val

/-- The transfer that brought the piece which ring transfer `k` sends on: for 3 to 6 one of the device's own two pieces,
    numbered 1 and 2. -/
def prev (k : Fin 33) : Fin 33 :=
  Fin.ofNat 33 (if k.val < 5 then 1 else if k.val < 7 then 2 else if k.val = 32 then 29 else k.val - 4)

/-- Whether the piece that transfer `k` brings is sent on. -/
def hasNext (k : Fin 33) : Bool := (3 ≤ k.val && k.val ≤ 27) || k.val == 29
/-- The transfer that sends on the piece that transfer `k` brings. -/
def next (k : Fin 33) : Fin 33 := Fin.ofNat 33 (if k.val = 29 then 32 else k.val + 4)

/-- The order in which a device receives: as the transfers are numbered, but the direct rows last. -/
def rank (k : Fin 33) : Nat := if k.val < 2 then k.val else if k.val = 2 then 32 else k.val - 1

/-- The transfer that sends a piece on takes the piece that was brought. -/
theorem prev_next : ∀ k : Fin 33, hasNext k = true → prev (next k) = k ∧ 7 ≤ (next k).val := by decide
/-- From 7 on, a transfer sends on a piece that a ring transfer brought. -/
theorem next_prev : ∀ k : Fin 33, 7 ≤ k.val → hasNext (prev k) = true ∧ next (prev k) = k ∧ 3 ≤ (prev k).val := by decide

/-- The piece that a ring transfer brings is the one that its sender had. -/
theorem rel_via : ∀ k : Fin 33, 3 ≤ k.val → ∀ c : Dev nD, slot (dst c k) k = slot c (prev k) := by decide +kernel
/-- A ring transfer stays in the plane. -/
theorem dst_ring : ∀ (c : Dev nD) (k : Fin 33), 3 ≤ k.val → ∀ o, org (dst c k) o = org c o := by
  intro c k hk o
  unfold dst via
  rw [if_neg (by omega)]
  split
  · exact org_right c o
  · exact org_left c o
/-- The first three transfers go to the partner. -/
theorem dst_partner : ∀ (c : Dev nD) (k : Fin 33), k.val < 3 → dst c k = partner c := by
  intro c k hk
  unfold dst via
  rw [if_pos hk]; rfl

/-- The pieces 1 to 32 of a device, its own two and the thirty it receives, are all the pieces of the ring buffer, each
    once. -/
theorem slot_injective (c : Dev nD) : ∀ k k' : Fin 33, 1 ≤ k.val → 1 ≤ k'.val → slot c k = slot c k' → k = k' := by
  revert c; decide +kernel
/-- Every piece of the ring buffer is one of the pieces 1 to 32. -/
theorem slot_surjective (c : Dev nD) : ∀ os : Fin 16 × Fin 2, ∃ k : Fin 33, 1 ≤ k.val ∧ slot c k = os := by
  revert c; decide +kernel

/-! ## The semaphores -/

/-- The semaphore that the sender's side of transfer `k` raises. -/
def sSem (k : Fin 33) : Fin 68 :=
  Fin.ofNat 68 (if k.val < 2 then 4 + k.val else if k.val = 2 then 2 else if isCw k then 8 + hop k else 40 + hop k)
/-- The semaphore that the receiver's side of transfer `k` raises. -/
def rSem (k : Fin 33) : Fin 68 :=
  Fin.ofNat 68 (if k.val < 2 then 6 + k.val else if k.val = 2 then 3 else if isCw k then 24 + hop k else 54 + hop k)

/-- The transfer and the side (sender's `false`, receiver's `true`) a transfer semaphore belongs to. -/
def semOf (i : Fin 68) : Option (Fin 33 × Bool) :=
  if i.val < 2 then none
  else if i.val = 2 then some (2, false) else if i.val = 3 then some (2, true)
  else if i.val < 6 then some (Fin.ofNat 33 (i.val - 4), false) else if i.val < 8 then some (Fin.ofNat 33 (i.val - 6), true)
  else if i.val < 24 then some (cwK (i.val - 8), false) else if i.val < 40 then some (cwK (i.val - 24), true)
  else if i.val < 54 then some (ccwK (i.val - 40), false) else some (ccwK (i.val - 54), true)

/-- The sender's semaphore of a transfer. -/
theorem semOf_sSem : ∀ k : Fin 33, semOf (sSem k) = some (k, false) := by decide
/-- The receiver's semaphore of a transfer. -/
theorem semOf_rSem : ∀ k : Fin 33, semOf (rSem k) = some (k, true) := by decide
/-- Every semaphore but the pipeline's two is of a transfer. -/
theorem sem_of_semOf : ∀ i : Fin 68, i.val < 2 ∨ (∃ k, sSem k = i) ∨ (∃ k, rSem k = i) := by decide

/-! ## The kernel's device numbers -/

/-- The device that the kernel's first signal goes to. -/
theorem dev1 : ∀ c : Dev nD, k0_dev1 c = (nb c 0).val := by decide +kernel
/-- The device that the kernel's second signal goes to. -/
theorem dev2 : ∀ c : Dev nD, k0_dev2 c = (nb c 1).val := by decide +kernel
/-- The device that the kernel's third signal goes to. -/
theorem dev3 : ∀ c : Dev nD, k0_dev3 c = (nb c 2).val := by decide +kernel
/-- The device that the kernel sends transfer 0 to. -/
theorem dev4 : ∀ c : Dev nD, k0_dev4 c = (dst c 0).val := by decide +kernel
/-- The device that the kernel sends transfer 1 to. -/
theorem dev5 : ∀ c : Dev nD, k0_dev5 c = (dst c 1).val := by decide +kernel
/-- The device that the kernel sends transfer 2 to. -/
theorem dev6 : ∀ c : Dev nD, k0_dev6 c = (dst c 2).val := by decide +kernel
/-- The device that the kernel sends transfer 3 to. -/
theorem dev7 : ∀ c : Dev nD, k0_dev7 c = (dst c 3).val := by decide +kernel
/-- The device that the kernel sends transfer 4 to. -/
theorem dev8 : ∀ c : Dev nD, k0_dev8 c = (dst c 4).val := by decide +kernel
/-- The device that the kernel sends transfer 5 to. -/
theorem dev9 : ∀ c : Dev nD, k0_dev9 c = (dst c 5).val := by decide +kernel
/-- The device that the kernel sends transfer 6 to. -/
theorem dev10 : ∀ c : Dev nD, k0_dev10 c = (dst c 6).val := by decide +kernel
/-- The device that the kernel sends transfer 7 to. -/
theorem dev11 : ∀ c : Dev nD, k0_dev11 c = (dst c 7).val := by decide +kernel
/-- The device that the kernel sends transfer 8 to. -/
theorem dev12 : ∀ c : Dev nD, k0_dev12 c = (dst c 8).val := by decide +kernel
/-- The device that the kernel sends transfer 9 to. -/
theorem dev13 : ∀ c : Dev nD, k0_dev13 c = (dst c 9).val := by decide +kernel
/-- The device that the kernel sends transfer 10 to. -/
theorem dev14 : ∀ c : Dev nD, k0_dev14 c = (dst c 10).val := by decide +kernel
/-- The device that the kernel sends transfer 11 to. -/
theorem dev15 : ∀ c : Dev nD, k0_dev15 c = (dst c 11).val := by decide +kernel
/-- The device that the kernel sends transfer 12 to. -/
theorem dev16 : ∀ c : Dev nD, k0_dev16 c = (dst c 12).val := by decide +kernel
/-- The device that the kernel sends transfer 13 to. -/
theorem dev17 : ∀ c : Dev nD, k0_dev17 c = (dst c 13).val := by decide +kernel
/-- The device that the kernel sends transfer 14 to. -/
theorem dev18 : ∀ c : Dev nD, k0_dev18 c = (dst c 14).val := by decide +kernel
/-- The device that the kernel sends transfer 15 to. -/
theorem dev19 : ∀ c : Dev nD, k0_dev19 c = (dst c 15).val := by decide +kernel
/-- The device that the kernel sends transfer 16 to. -/
theorem dev20 : ∀ c : Dev nD, k0_dev20 c = (dst c 16).val := by decide +kernel
/-- The device that the kernel sends transfer 17 to. -/
theorem dev21 : ∀ c : Dev nD, k0_dev21 c = (dst c 17).val := by decide +kernel
/-- The device that the kernel sends transfer 18 to. -/
theorem dev22 : ∀ c : Dev nD, k0_dev22 c = (dst c 18).val := by decide +kernel
/-- The device that the kernel sends transfer 19 to. -/
theorem dev23 : ∀ c : Dev nD, k0_dev23 c = (dst c 19).val := by decide +kernel
/-- The device that the kernel sends transfer 20 to. -/
theorem dev24 : ∀ c : Dev nD, k0_dev24 c = (dst c 20).val := by decide +kernel
/-- The device that the kernel sends transfer 21 to. -/
theorem dev25 : ∀ c : Dev nD, k0_dev25 c = (dst c 21).val := by decide +kernel
/-- The device that the kernel sends transfer 22 to. -/
theorem dev26 : ∀ c : Dev nD, k0_dev26 c = (dst c 22).val := by decide +kernel
/-- The device that the kernel sends transfer 23 to. -/
theorem dev27 : ∀ c : Dev nD, k0_dev27 c = (dst c 23).val := by decide +kernel
/-- The device that the kernel sends transfer 24 to. -/
theorem dev28 : ∀ c : Dev nD, k0_dev28 c = (dst c 24).val := by decide +kernel
/-- The device that the kernel sends transfer 25 to. -/
theorem dev29 : ∀ c : Dev nD, k0_dev29 c = (dst c 25).val := by decide +kernel
/-- The device that the kernel sends transfer 26 to. -/
theorem dev30 : ∀ c : Dev nD, k0_dev30 c = (dst c 26).val := by decide +kernel
/-- The device that the kernel sends transfer 27 to. -/
theorem dev31 : ∀ c : Dev nD, k0_dev31 c = (dst c 27).val := by decide +kernel
/-- The device that the kernel sends transfer 28 to. -/
theorem dev32 : ∀ c : Dev nD, k0_dev32 c = (dst c 28).val := by decide +kernel
/-- The device that the kernel sends transfer 29 to. -/
theorem dev33 : ∀ c : Dev nD, k0_dev33 c = (dst c 29).val := by decide +kernel
/-- The device that the kernel sends transfer 30 to. -/
theorem dev34 : ∀ c : Dev nD, k0_dev34 c = (dst c 30).val := by decide +kernel
/-- The device that the kernel sends transfer 31 to. -/
theorem dev35 : ∀ c : Dev nD, k0_dev35 c = (dst c 31).val := by decide +kernel
/-- The device that the kernel sends transfer 32 to. -/
theorem dev36 : ∀ c : Dev nD, k0_dev36 c = (dst c 32).val := by decide +kernel

/-! ## The kernel's offsets -/

/-- Where piece `(o, s)` of the ring buffer starts. -/
def poff (os : Fin 16 × Fin 2) : Fin 3 → Nat := ![os.1.val, 80 * os.2.val, 0]
/-- Where the rows of piece `(o, s)` start in the full block. -/
def roff (os : Fin 16 × Fin 2) : Fin 2 → Nat := ![1536 + 160 * os.1.val + 80 * os.2.val, 0]

/-- Where the rows of an own half begin in the input, as the copies name it. -/
theorem off1 : ∀ (c : Dev nD) (s : Fin 2), k0_off1 c (BitVec.ofNat 32 (80 * s.val)) = roff (pos c, s) := by decide +kernel
/-- The same as the loads and stores name it. -/
theorem off2 : ∀ (c : Dev nD) (s : Fin 2), k0_off2 c (BitVec.ofNat 32 (80 * s.val)) = roff (pos c, s) := by decide +kernel
/-- Where the first own piece is in the ring buffer, as its store and its load name it. -/
theorem off3 : ∀ c : Dev nD, k0_off3 c = poff (pos c, 0) := by decide +kernel
/-- The same as its copies name it. -/
theorem off4 : ∀ c : Dev nD, k0_off4 c = poff (pos c, 0) := by decide +kernel
/-- Where the second own piece is in the ring buffer, as its store and its load name it. -/
theorem off5 : ∀ c : Dev nD, k0_off5 c = poff (pos c, 1) := by decide +kernel
/-- The same as its copies name it. -/
theorem off6 : ∀ c : Dev nD, k0_off6 c = poff (pos c, 1) := by decide +kernel
/-- The piece of an even clockwise hop, as its copy names it. -/
theorem off7 : ∀ (c : Dev nD) (r : Fin 8), k0_off7 c (BitVec.ofNat 32 r.val) = poff (slot c (cwK (2 * r.val))) := by decide +kernel
/-- The piece of an even counter-clockwise hop, as its copy names it. -/
theorem off8 : ∀ (c : Dev nD) (r : Fin 7), k0_off8 c (BitVec.ofNat 32 r.val) = poff (slot c (ccwK (2 * r.val))) := by decide +kernel
/-- The piece of an even clockwise hop, as its load names it. -/
theorem off9 : ∀ (c : Dev nD) (r : Fin 8), k0_off9 c (BitVec.ofNat 32 r.val) = poff (slot c (cwK (2 * r.val))) := by decide +kernel
/-- The piece of an even counter-clockwise hop, as its load names it. -/
theorem off11 : ∀ (c : Dev nD) (r : Fin 7), k0_off11 c (BitVec.ofNat 32 r.val) = poff (slot c (ccwK (2 * r.val))) := by decide +kernel
/-- The piece of an odd clockwise hop, as its copy names it. -/
theorem off13 : ∀ (c : Dev nD) (r : Fin 8), k0_off13 c (BitVec.ofNat 32 r.val) = poff (slot c (cwK (2 * r.val + 1))) := by decide +kernel
/-- The piece of an odd counter-clockwise hop, as its copy names it. -/
theorem off14 : ∀ (c : Dev nD) (r : Fin 7), k0_off14 c (BitVec.ofNat 32 r.val) = poff (slot c (ccwK (2 * r.val + 1))) := by decide +kernel
/-- The piece of an odd clockwise hop, as its load names it. -/
theorem off15 : ∀ (c : Dev nD) (r : Fin 8), k0_off15 c (BitVec.ofNat 32 r.val) = poff (slot c (cwK (2 * r.val + 1))) := by decide +kernel
/-- The piece of an odd counter-clockwise hop, as its load names it. -/
theorem off16 : ∀ (c : Dev nD) (r : Fin 7), k0_off16 c (BitVec.ofNat 32 r.val) = poff (slot c (ccwK (2 * r.val + 1))) := by decide +kernel
/-- The rows of a clockwise hop's piece in the result. -/
theorem off10 : ∀ (c : Dev nD) (r : Fin 8) (s : Fin 2),
    k0_off10 c (BitVec.ofNat 32 r.val) (BitVec.ofNat 32 (80 * s.val)) = roff (slot c (cwK (2 * r.val + s.val))) := by decide +kernel
/-- The rows of a counter-clockwise hop's piece in the result. -/
theorem off12 : ∀ (c : Dev nD) (r : Fin 7) (s : Fin 2),
    k0_off12 c (BitVec.ofNat 32 r.val) (BitVec.ofNat 32 (80 * s.val)) = roff (slot c (ccwK (2 * r.val + s.val))) := by decide +kernel

end Cert.AllReduce
-- ==== Proof.Blocks.lean ====
/-
The buffers of the all-reduce kernel cut into blocks, and what each block comes to hold.

`X c` is device `c`'s block of the input. The chunk buffer receives the rows of the device's own chunk from its
partner, the direct buffer receives the partner's first 1536 rows, and the ring buffer comes to hold for each cycle
position the sum of that device's and its partner's rows. Each statement here says that one of the kernel's copies or
stores puts the intended contents into the block it writes.
-/
module

public import proofs.«01_k».proof.Proof.Mesh
public import Idealize.ShloMosaic.Lib.Pipeline.Value

@[expose] public section

noncomputable section

namespace Cert.AllReduce

open Cert.KernelIdeal Cert.KernelIdeal.Gen
open Idealize.ShloMosaic Idealize.ShloMosaic.TcCoe

variable {F : FTy → Type} [FloatOps F]

/-! ## The buffers and their blocks -/

/-- The staged input. -/
abbrev xM : Memref sig .tc .vmem S4096x1024 .f32 := Memref.whole cc0_stg0_0
/-- The staged result. -/
abbrev oM : Memref sig .tc .vmem S4096x1024 .f32 := Memref.whole cc0_stg1_0
/-- The buffer of the direct rows. -/
abbrev dM : Memref sig .tc .vmem S1536x1024 .f32 := Memref.whole cc0_scratch0
/-- The buffer of the received chunk. -/
abbrev kM : Memref sig .tc .vmem S160x1024 .f32 := Memref.whole cc0_scratch1
/-- The ring buffer. -/
abbrev gM : Memref sig .tc .vmem S16x160x1024 .f32 := Memref.whole cc0_scratch2

/-- Where half `s` of the chunk buffer starts. -/
def coff (s : Fin 2) : Fin 2 → Nat := ![80 * s.val, 0]

/-- A piece lies inside the ring buffer. -/
theorem poff_inb (os : Fin 16 × Fin 2) : ∀ a, poff os a + S1x80x1024.size a ≤ S16x160x1024.size a := by
  revert os; decide +kernel
/-- A piece's rows lie inside the input and the result. -/
theorem roff_inb (os : Fin 16 × Fin 2) : ∀ a, roff os a + S80x1024.size a ≤ S4096x1024.size a := by
  revert os; decide +kernel
/-- A half lies inside the chunk buffer. -/
theorem coff_inb (s : Fin 2) : ∀ a, coff s a + S80x1024.size a ≤ S160x1024.size a := by
  revert s; decide +kernel

/-- Piece `(o, s)` of the ring buffer. -/
abbrev pieceR (os : Fin 16 × Fin 2) : Rect S16x160x1024 := Rect.unit (s := S16x160x1024) (poff os) S1x80x1024.size (poff_inb os)
/-- The rows of piece `(o, s)` in a full block. -/
abbrev rowsR (os : Fin 16 × Fin 2) : Rect S4096x1024 := Rect.unit (s := S4096x1024) (roff os) S80x1024.size (roff_inb os)
/-- Half `s` of the chunk buffer. -/
abbrev halfR (s : Fin 2) : Rect S160x1024 := Rect.unit (s := S160x1024) (coff s) S80x1024.size (coff_inb s)
/-- The direct rows of a full block. -/
abbrev directR : Rect S4096x1024 := Rect.unit (s := S4096x1024) ![0, 0] S1536x1024.size inb_S4096x1024_S1536x1024_0_0

/-- The views the copies go through: a piece of the ring buffer as 80 rows; -/
abbrev pieceM (os : Fin 16 × Fin 2) : Memref sig .tc .vmem S80x1024 .f32 :=
  (gM.slice (pieceR os) (fun _ => rfl)).squeeze S80x1024 squeezes_S1x80x1024_S80x1024
/-- rows of the input; -/
abbrev rowsM (os : Fin 16 × Fin 2) : Memref sig .tc .vmem S80x1024 .f32 := xM.slice (rowsR os) (fun _ => rfl)
/-- a half of the chunk buffer; -/
abbrev halfM (s : Fin 2) : Memref sig .tc .vmem S80x1024 .f32 := kM.slice (halfR s) (fun _ => rfl)
/-- the direct rows of the input. -/
abbrev directM : Memref sig .tc .vmem S1536x1024 .f32 := xM.slice directR (fun _ => rfl)

/-- The elements of a piece, seen as the kernel sees it. -/
theorem set_pieceM (os : Fin 16 × Fin 2) : (pieceM os).view.set = (pieceR os).set :=
  (View.set_reshape _ _).trans (View.set_slice_whole _ _)
/-- The elements of a piece's rows. -/
theorem set_rowsM (os : Fin 16 × Fin 2) : (rowsM os).view.set = (rowsR os).set := View.set_slice_whole _ _
/-- The elements of a half of the chunk buffer. -/
theorem set_halfM (s : Fin 2) : (halfM s).view.set = (halfR s).set := View.set_slice_whole _ _
/-- The elements of the direct rows. -/
theorem set_directM : directM.view.set = directR.set := View.set_slice_whole _ _
/-- The direct buffer taken whole has all its elements. -/
theorem set_dM : dM.view.set = Finset.univ := View.set_whole _

/-- Which elements of the ring buffer a piece has. -/
theorem mem_piece {os : Fin 16 × Fin 2} {i : S16x160x1024.Idx} :
    i ∈ (pieceR os).set ↔ (i 0).val = os.1.val ∧ 80 * os.2.val ≤ (i 1).val ∧ (i 1).val < 80 * os.2.val + 80 := by
  rw [Rect.mem_set_unit]
  have h2 : (i 2).val < 1024 := (i 2).isLt
  constructor
  · intro h
    have h0 := h 0; have h1 := h 1
    change os.1.val ≤ (i 0).val ∧ (i 0).val < os.1.val + 1 at h0
    change 80 * os.2.val ≤ (i 1).val ∧ (i 1).val < 80 * os.2.val + 80 at h1
    omega
  · rintro ⟨h0, h1, h1'⟩ a
    match a with
    | ⟨0, _⟩ => show os.1.val ≤ (i 0).val ∧ (i 0).val < os.1.val + 1; omega
    | ⟨1, _⟩ => show 80 * os.2.val ≤ (i 1).val ∧ (i 1).val < 80 * os.2.val + 80; omega
    | ⟨2, _⟩ => show 0 ≤ (i 2).val ∧ (i 2).val < 0 + 1024; omega

/-- Which elements of the input or the result a piece's rows have. -/
theorem mem_rows {os : Fin 16 × Fin 2} {i : S4096x1024.Idx} :
    i ∈ (rowsR os).set ↔ 1536 + 160 * os.1.val + 80 * os.2.val ≤ (i 0).val ∧ (i 0).val < 1536 + 160 * os.1.val + 80 * os.2.val + 80 := by
  rw [Rect.mem_set_unit]
  have h1 : (i 1).val < 1024 := (i 1).isLt
  constructor
  · intro h; exact h 0
  · intro h a
    match a with
    | ⟨0, _⟩ => exact h
    | ⟨1, _⟩ => show 0 ≤ (i 1).val ∧ (i 1).val < 0 + 1024; omega

/-- Which elements of the chunk buffer a half has. -/
theorem mem_half {s : Fin 2} {i : S160x1024.Idx} :
    i ∈ (halfR s).set ↔ 80 * s.val ≤ (i 0).val ∧ (i 0).val < 80 * s.val + 80 := by
  rw [Rect.mem_set_unit]
  have h1 : (i 1).val < 1024 := (i 1).isLt
  constructor
  · intro h; exact h 0
  · intro h a
    match a with
    | ⟨0, _⟩ => exact h
    | ⟨1, _⟩ => show 0 ≤ (i 1).val ∧ (i 1).val < 0 + 1024; omega

/-- The direct rows are the first 1536. -/
theorem mem_direct {i : S4096x1024.Idx} : i ∈ directR.set ↔ (i 0).val < 1536 := by
  rw [Rect.mem_set_unit]
  have h1 : (i 1).val < 1024 := (i 1).isLt
  constructor
  · intro h
    have h0 := h 0
    change 0 ≤ (i 0).val ∧ (i 0).val < 0 + 1536 at h0
    omega
  · intro h a
    match a with
    | ⟨0, _⟩ => show 0 ≤ (i 0).val ∧ (i 0).val < 0 + 1536; omega
    | ⟨1, _⟩ => show 0 ≤ (i 1).val ∧ (i 1).val < 0 + 1024; omega

/-- The ring buffer's pieces have no element in common, -/
theorem pieces_disjoint {os os' : Fin 16 × Fin 2} (h : os ≠ os') : Disjoint (pieceR os).set (pieceR os').set := by
  rw [Finset.disjoint_left]
  intro i hi hi'
  rw [mem_piece] at hi hi'
  exact h (Prod.ext (Fin.ext (by omega)) (Fin.ext (by omega)))
/-- and together are all of it. -/
theorem pieces_cover (i : S16x160x1024.Idx) : ∃ os, i ∈ (pieceR os).set := by
  have h1 : (i 1).val < 160 := (i 1).isLt
  refine ⟨(i 0, ⟨(i 1).val / 80, by omega⟩), mem_piece.mpr ⟨rfl, ?_⟩⟩
  show 80 * ((i 1).val / 80) ≤ _ ∧ _ < 80 * ((i 1).val / 80) + 80
  omega

/-- The two halves of the chunk buffer share no element. -/
theorem halves_disjoint : Disjoint (halfR 0).set (halfR 1).set := by
  rw [Finset.disjoint_left]
  intro i hi hi'
  rw [mem_half] at hi hi'
  have h0 : ((0 : Fin 2)).val = 0 := rfl
  have h1 : ((1 : Fin 2)).val = 1 := rfl
  omega
/-- Every element of the chunk buffer is in one of the halves. -/
theorem halves_cover (i : S160x1024.Idx) : i ∈ (halfR 0).set ∨ i ∈ (halfR 1).set := by
  have h1 : (i 0).val < 160 := (i 0).isLt
  rw [mem_half, mem_half]
  have h0 : ((0 : Fin 2)).val = 0 := rfl
  have h1 : ((1 : Fin 2)).val = 1 := rfl
  omega

/-! ## The contents -/

/-- The element of a full block in row `r` and column `q`. -/
def at2 (r q : Nat) : S4096x1024.Idx := fun a => match a with
  | ⟨0, _⟩ => (Fin.ofNat 4096 r : Fin 4096)
  | ⟨1, _⟩ => (Fin.ofNat 1024 q : Fin 1024)

/-- An element with the given row and column is the one named by them. -/
theorem at2_eq (i : S4096x1024.Idx) {r q : Nat} (hr : (i 0).val = r) (hq : (i 1).val = q) : at2 r q = i := by
  have h0 : (i 0).val < 4096 := (i 0).isLt
  have h1 : (i 1).val < 1024 := (i 1).isLt
  funext a
  match a with
  | ⟨0, _⟩ => exact Fin.ext ((Nat.mod_eq_of_lt (by omega)).trans hr.symm)
  | ⟨1, _⟩ => exact Fin.ext ((Nat.mod_eq_of_lt (by omega)).trans hq.symm)

variable (X : Dev nD → S4096x1024.Idx → F .f32)

/-- The partner's rows of the device's own chunk. -/
def chunkC (e : Dev nD) : S160x1024.Idx → F .f32 := fun i =>
  X (partner e) (at2 (1536 + 160 * (pos e).val + (i 0).val) (i 1).val)
/-- The partner's direct rows. -/
def directC (e : Dev nD) : S1536x1024.Idx → F .f32 := fun i => X (partner e) (at2 (i 0).val (i 1).val)
/-- What device `e` and its partner hold at an element, added on device `e`. -/
def sumC (e : Dev nD) (j : S4096x1024.Idx) : F .f32 := FloatOps.addf (X e j) (X (partner e) j)
/-- The sums of every cycle position's chunk, each as that position's device adds it. -/
def ringC (c : Dev nD) : S16x160x1024.Idx → F .f32 := fun i =>
  sumC X (org c (i 0)) (at2 (1536 + 160 * (i 0).val + (i 1).val) (i 2).val)
/-- The result on device `c`: the direct rows added by itself, every chunk by the device at its cycle position. -/
def outC (c : Dev nD) : S4096x1024.Idx → F .f32 := fun i =>
  if (i 0).val < 1536 then sumC X c i else sumC X (org c (Fin.ofNat 16 (((i 0).val - 1536) / 160))) i

/-- A device and the one it sends a ring piece to mean the same contents of the ring buffer. -/
theorem ringC_dst (c : Dev nD) (k : Fin 33) (hk : 3 ≤ k.val) : ringC X (dst c k) = ringC X c := by
  funext i; exact congrArg (fun e => sumC X e _) (dst_ring c k hk (i 0))

/-! ## What the copies and stores write -/

/-- A write through a rectangle of a whole buffer puts `g` there if the payload is `g` under the rectangle. -/
theorem write_rect {Val : EltTy → Type} (b : Ref sig .tc) (r : Rect b.ty.shape) (f g : b.ty.Contents Val) (w : r.shape.Idx → Val b.ty.elt)
    (h : ∀ x, w x = g (r.emb x)) : ∀ i ∈ r.set, ((View.whole b).slice r).write Val f w Finset.univ i = g i := by
  intro i hi
  rw [← Rect.map_emb_univ, Finset.mem_map] at hi
  obtain ⟨x, -, rfl⟩ := hi
  exact (View.write_emb_of_mem (v := (View.whole b).slice r) f w (Finset.mem_univ x)).trans (h x)

/-- A piece copied from one ring buffer to another holds there what it held. -/
theorem piece_landed (os : Fin 16 × Fin 2) (f g : S16x160x1024.Idx → F .f32) :
    ∀ i ∈ (pieceR os).set, (pieceM os).view.write (Elt F) f ((pieceM os).view.read (Elt F) g) Finset.univ i = g i := by
  intro i hi
  have h := congrFun (View.write_read_eq_piecewise (v := (pieceM os).view) (Val := Elt F) f g Finset.univ) i
  refine h.trans (Finset.piecewise_eq_of_mem _ _ _ ?_)
  rw [View.setOn_univ]
  exact (set_pieceM os).symm ▸ hi

/-- A half of the chunk buffer filled from the partner's rows. -/
theorem half_landed (c : Dev nD) (s : Fin 2) (f : S160x1024.Idx → F .f32) :
    ∀ i ∈ (halfR s).set, (halfM s).view.write (Elt F) f ((rowsM (pos c, s)).view.read (Elt F) (X c)) Finset.univ i = chunkC X (partner c) i := by
  refine write_rect (Val := Elt F) cc0_scratch1 (halfR s) f (chunkC X (partner c)) _ fun x => ?_
  show X c ((rowsR (pos c, s)).emb x) = X (partner (partner c)) _
  rw [partner_partner, pos_partner]
  refine congrArg (X c) (at2_eq _ ?_ ?_).symm
  · show 1536 + 160 * (pos c).val + 80 * s.val + 1 * (x 0).val = 1536 + 160 * (pos c).val + (80 * s.val + 1 * (x 0).val); omega
  · rfl

/-- The direct buffer filled from the partner's direct rows. -/
theorem direct_landed (c : Dev nD) (f : S1536x1024.Idx → F .f32) :
    dM.view.write (Elt F) f (directM.view.read (Elt F) (X c)) Finset.univ = directC X (partner c) := by
  refine (View.write_whole_univ (Val := Elt F) cc0_scratch0 f _).trans (funext fun x => ?_)
  show X c (directR.emb x) = X (partner (partner c)) _
  rw [partner_partner]
  refine congrArg (X c) (at2_eq _ ?_ ?_).symm
  · show 0 + 1 * (x 0).val = _; omega
  · show 0 + 1 * (x 1).val = _; omega

/-- The device's own rows plus the partner's, as the kernel stores them in the ring buffer. -/
def ownVec (c : Dev nD) (s : Fin 2) : S1x80x1024.Idx → F .f32 :=
  k0_pay3 (xM.view.readAt (Elt F) (rowsR (pos c, s)).toLoadRect (X c)) (kM.view.readAt (Elt F) (halfR s).toLoadRect (chunkC X c))

/-- Stored, they are the device's own piece of the ring. -/
theorem own_stored (c : Dev nD) (s : Fin 2) (f : S16x160x1024.Idx → F .f32) :
    ∀ i ∈ (pieceR (pos c, s)).set, (gM.access (pieceR (pos c, s))).write (Elt F) f (ownVec X c s) Finset.univ i = ringC X c i := by
  refine write_rect (Val := Elt F) cc0_scratch2 (pieceR (pos c, s)) f (ringC X c) _ fun x => ?_
  have hx : (x 0).val < 1 := (x 0).isLt
  have e0 : (pieceR (pos c, s)).emb x 0 = pos c := Fin.ext (by show (pos c).val + 1 * (x 0).val = _; omega)
  have e1 : ((pieceR (pos c, s)).emb x 1).val = 80 * s.val + (x 1).val := by show 80 * s.val + 1 * (x 1).val = _; omega
  have e2 : ((pieceR (pos c, s)).emb x 2).val = (x 2).val := by show 0 + 1 * (x 2).val = _; omega
  unfold ownVec k0_pay3
  refine (shapeCast_addUnit_apply ![80, 1024] _ _ x).trans ?_
  unfold ringC sumC
  rw [e0, org_pos, e1, e2]
  show FloatOps.addf (shapeCast S80x1024 (xM.view.readAt (Elt F) (rowsR (pos c, s)).toLoadRect (X c)) shapeCasts_S80x1024_S80x1024 _) _ = _
  refine congrArg₂ FloatOps.addf ((congrFun (shapeCast_self _ _) _).trans (congrArg (X c) (at2_eq _ ?_ ?_).symm)) (congrArg (X (partner c)) ?_)
  · show 1536 + 160 * (pos c).val + 80 * s.val + 1 * (x 1).val = _; omega
  · show 0 + 1 * (x 2).val = _; omega
  · show at2 (1536 + 160 * (pos c).val + (80 * s.val + 1 * (x 1).val)) (0 + 1 * (x 2).val) = _
    rw [one_mul, one_mul, zero_add]

/-- A piece of the ring as the kernel stores it in the result. -/
def pieceVec (c : Dev nD) (os : Fin 16 × Fin 2) : S80x1024.Idx → F .f32 :=
  k0_pay4 (gM.view.readAt (Elt F) (pieceR os).toLoadRect (ringC X c))

/-- Stored, it is the result's rows of that piece. -/
theorem piece_stored (c : Dev nD) (os : Fin 16 × Fin 2) (f : S4096x1024.Idx → F .f32) :
    ∀ i ∈ (rowsR os).set, (oM.access (rowsR os)).write (Elt F) f (pieceVec X c os) Finset.univ i = outC X c i := by
  refine write_rect (Val := Elt F) cc0_stg1_0 (rowsR os) f (outC X c) _ fun x => ?_
  have hx : (x 0).val < 80 := (x 0).isLt
  have hs : os.2.val < 2 := os.2.isLt
  have ho : os.1.val < 16 := os.1.isLt
  have e0 : ((rowsR os).emb x 0).val = 1536 + 160 * os.1.val + 80 * os.2.val + (x 0).val := by
    show 1536 + 160 * os.1.val + 80 * os.2.val + 1 * (x 0).val = _; omega
  have e1 : ((rowsR os).emb x 1).val = (x 1).val := by show 0 + 1 * (x 1).val = _; omega
  unfold pieceVec k0_pay4
  refine (shapeCast_dropUnit_apply ![80, 1024] _ _ x).trans ?_
  show ringC X c ((pieceR os).emb _) = _
  unfold outC ringC
  rw [e0, if_neg (by omega)]
  have eo : Fin.ofNat 16 ((1536 + 160 * os.1.val + 80 * os.2.val + (x 0).val - 1536) / 160) = os.1 :=
    Fin.ext (by show ((1536 + 160 * os.1.val + 80 * os.2.val + (x 0).val - 1536) / 160) % 16 = _; omega)
  rw [eo]
  have e0' : (pieceR os).emb (Fin.cons ⟨0, Nat.one_pos⟩ x) 0 = os.1 := Fin.ext (by show os.1.val + 1 * 0 = _; omega)
  rw [e0']
  refine congrArg (sumC X (org c os.1)) (at2_eq _ ?_ ?_)
  · rw [e0]; show _ = 1536 + 160 * os.1.val + (80 * os.2.val + 1 * (x 0).val); omega
  · rw [e1]; show _ = 0 + 1 * (x 1).val; omega

/-- The direct rows plus the partner's, as the kernel stores them in the result. -/
def directVec (c : Dev nD) : S1536x1024.Idx → F .f32 :=
  k0_pay36 (xM.view.readAt (Elt F) directR.toLoadRect (X c))
    (dM.view.readAt (Elt F) (Rect.unit (s := S1536x1024) ![0, 0] S1536x1024.size inb_S1536x1024_S1536x1024_0_0).toLoadRect (directC X c))

/-- Stored, they are the result's direct rows. -/
theorem direct_stored (c : Dev nD) (f : S4096x1024.Idx → F .f32) :
    ∀ i ∈ directR.set, (oM.access directR).write (Elt F) f (directVec X c) Finset.univ i = outC X c i := by
  refine write_rect (Val := Elt F) cc0_stg1_0 directR f (outC X c) _ fun x => ?_
  have hx : (x 0).val < 1536 := (x 0).isLt
  have e0 : (directR.emb x 0).val = (x 0).val := by show 0 + 1 * (x 0).val = _; omega
  have e1 : (directR.emb x 1).val = (x 1).val := by show 0 + 1 * (x 1).val = _; omega
  unfold directVec k0_pay36 outC
  rw [if_pos (by omega)]
  show FloatOps.addf (shapeCast S1536x1024 (xM.view.readAt (Elt F) directR.toLoadRect (X c)) shapeCasts_S1536x1024_S1536x1024 x) _ = _
  unfold sumC
  refine congrArg₂ FloatOps.addf (congrFun (shapeCast_self _ _) _) (congrArg (X (partner c)) (at2_eq _ ?_ ?_))
  · rw [e0]; show _ = 0 + 1 * (x 0).val; omega
  · rw [e1]; show _ = 0 + 1 * (x 1).val; omega

/-- Every row of the result is a direct row or one of a piece. -/
theorem rows_cover (i : S4096x1024.Idx) : i ∈ directR.set ∨ ∃ os, i ∈ (rowsR os).set := by
  have h0 : (i 0).val < 4096 := (i 0).isLt
  by_cases h : (i 0).val < 1536
  · exact .inl (mem_direct.mpr h)
  · refine .inr ⟨(⟨((i 0).val - 1536) / 160, by omega⟩, ⟨((i 0).val - 1536) % 160 / 80, by omega⟩), mem_rows.mpr ?_⟩
    show 1536 + 160 * (((i 0).val - 1536) / 160) + 80 * (((i 0).val - 1536) % 160 / 80) ≤ _ ∧ _
    show _ ∧ _ < 1536 + 160 * (((i 0).val - 1536) / 160) + 80 * (((i 0).val - 1536) % 160 / 80) + 80
    omega

end Cert.AllReduce

end
-- ==== Proof.Cells.lean ====
/-
The semaphores of the all-reduce kernel as cells of the rounds library, and the schedule of their one round.

A device has 67 cells: its barrier, and for each of its 33 transfers the semaphore of the sender's side and the one of
the receiver's side. The barrier has three duties of one unit, one for each neighbour, and a neighbour hands over with
it the buffers it receives into from this device. The sender's cell of a transfer gives back the source the copy read,
and the receiver's cell the landing buffer with its contents.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the kernel's, whose duties are numbered by `Fin 3` -/

/-- The kernel's own rounds. -/
abbrev UB : Type := URounds (GSem nD τ sig) (Fin 3)
/-- The two algebras together. -/
abbrev UU : Type := UR sig nD τ × UB

local notation "𝕄" => MT nD τ sig Unit (Elt F) ℕ UU ℕ

/-- Where the pipeline's part is. -/
abbrev EP : Emb (UR sig nD τ) (MT nD τ sig Unit (Elt F) ℕ UU ℕ) := embL
/-- Where the kernel's part is. -/
abbrev ER : Emb UB (MT nD τ sig Unit (Elt F) ℕ UU ℕ) := embR

/-! ## The cells -/

/-- The barrier semaphore. -/
abbrev barS : Sem sig := (SemArray.scalar (sig.barrier 0 rfl) : Sems sig S_).sem

/-- A cell of a device: its barrier, or a side of one of its transfers (the receiver's side if `true`). -/
abbrev J : Type := Option (Fin 33 × Bool)

/-- The semaphore of a cell. -/
def csem : J → SemLoc sig
  | none => .reg barS
  | some (k, false) => .dma (sSem k)
  | some (k, true) => .dma (rSem k)

/-- The cell of a semaphore. -/
def cls : SemLoc sig → Option J
  | .reg _ => some none
  | .dma q => (semOf q).map some

/-- A cell's semaphore is classed as that cell. -/
theorem cls_csem (j : J) : cls (csem j) = some j := by
  match j with
  | none => rfl
  | some (k, false) => show (semOf (sSem k)).map some = _; rw [semOf_sSem]; rfl
  | some (k, true) => show (semOf (rSem k)).map some = _; rw [semOf_rSem]; rfl

/-- A cell of a device among all semaphores of all devices. -/
abbrev kcell (cj : Dev nD × J) : GSem nD τ sig := ((cj.1 : Thread nD τ), csem cj.2)
/-- A device's barrier. -/
abbrev barCell (c : Dev nD) : GSem nD τ sig := ((c : Thread nD τ), .reg barS)
/-- The sender's cell of a device's transfer. -/
abbrev sendCell (c : Dev nD) (k : Fin 33) : GSem nD τ sig := ((c : Thread nD τ), .dma (sSem k))
/-- The receiver's cell of the transfer that brings a device something. -/
abbrev recvCell (c : Dev nD) (k : Fin 33) : GSem nD τ sig := ((c : Thread nD τ), .dma (rSem k))

/-- Different cells have different semaphores. -/
theorem csem_injective : Function.Injective csem := fun j j' h => by
  have := cls_csem j; rw [h, cls_csem] at this; exact (Option.some.inj this).symm
/-- Different cells of the devices have different semaphores. -/
theorem kcell_injective : Function.Injective kcell := by
  rintro ⟨c, j⟩ ⟨c', j'⟩ h
  have h1 : c = c' := congrArg (fun g : GSem nD τ sig => g.1.1) h
  have h2 : csem j = csem j' := congrArg Prod.snd h
  rw [h1, csem_injective h2]

/-- The units transfer `k` raises on either side. -/
def N (k : Fin 33) : ℕ := if k.val = 2 then directM.view.dmaCredit else (rowsM (0, 0)).view.dmaCredit
/-- A transfer credits at least one unit. -/
theorem N_pos (k : Fin 33) : 0 < N k := by
  unfold N; split
  · exact View.dmaCredit_pos _ (by decide)
  · exact View.dmaCredit_pos _ (by decide)
/-- Every transfer but that of the direct rows credits what 80 rows do. -/
theorem N_ne (k : Fin 33) (h : k.val ≠ 2) : N k = (rowsM (0, 0)).view.dmaCredit := if_neg h

/-! ## The buffers a transfer reads and writes -/

variable (X : Dev nD → S4096x1024.Idx → F .f32)

/-- The buffer transfer `k` of some device lands in on device `c`, with given contents. -/
def landPts (c : Dev nD) (k : Fin 33) (fk : S160x1024.Idx → F .f32) (fd : S1536x1024.Idx → F .f32) (fg : S16x160x1024.Idx → F .f32) : sProp 𝕄 :=
  if k.val < 2 then ((c : Thread nD τ).loc cc0_scratch1) ↦[(halfR (half k)).set]{fullShare} fk
  else if k.val = 2 then ((c : Thread nD τ).loc cc0_scratch0) ↦[Finset.univ]{fullShare} fd
  else ((c : Thread nD τ).loc cc0_scratch2) ↦[(pieceR (slot c k)).set]{fullShare} fg

/-- That buffer before the transfer: any contents. -/
def junk (c : Dev nD) (k : Fin 33) : sProp 𝕄 := iprop(∃ fk fd fg, landPts (F := F) c k fk fd fg)
/-- And after it. -/
def recvPay (c : Dev nD) (k : Fin 33) : sProp 𝕄 := landPts c k (chunkC X c) (directC X c) (ringC X c)

/-- The share of its source a transfer takes. The first four ring transfers send each of two pieces both ways. -/
def shareOf (k : Fin 33) : PosShare TreeShare :=
  if k.val = 3 ∨ k.val = 5 then fullShare.left.left else if k.val = 4 ∨ k.val = 6 then fullShare.left.right else fullShare.left

/-- What transfer `k` of device `c` reads. -/
def sendPay (c : Dev nD) (k : Fin 33) : sProp 𝕄 :=
  if k.val < 2 then ((c : Thread nD τ).loc cc0_stg0_0) ↦[(rowsR (pos c, half k)).set]{shareOf k} X c
  else if k.val = 2 then ((c : Thread nD τ).loc cc0_stg0_0) ↦[directR.set]{shareOf k} X c
  else ((c : Thread nD τ).loc cc0_scratch2) ↦[(pieceR (slot c (prev k))).set]{shareOf k} ringC X c

/-- What the neighbour `nb c d` hands device `c` with its barrier signal: the buffers it receives into from `c`. -/
def barPay (c : Dev nD) (d : Fin 3) : sProp 𝕄 :=
  bigSep (Finset.univ.filter fun k => via k = d) fun k => junk (F := F) (dst c k) k

omit [FloatOps F] in
/-- Ownership of a landing buffer can be kept in an invariant. -/
instance landPts_storable (c : Dev nD) (k : Fin 33) (fk fd fg) : BI.Storable (upEmb : UEmb _ 𝕄) (landPts (F := F) c k fk fd fg) := by
  unfold landPts; (repeat' split) <;> infer_instance
omit [FloatOps F] in
/-- So can that of a landing buffer with unknown contents. -/
instance junk_storable (c : Dev nD) (k : Fin 33) : BI.Storable (upEmb : UEmb _ 𝕄) (junk (F := F) c k) := by
  unfold junk; infer_instance
/-- So can what a landing hands over. -/
instance recvPay_storable (c : Dev nD) (k : Fin 33) : BI.Storable (upEmb : UEmb _ 𝕄) (recvPay X c k) := by
  unfold recvPay; infer_instance
/-- So can what a sender gets back. -/
instance sendPay_storable (c : Dev nD) (k : Fin 33) : BI.Storable (upEmb : UEmb _ 𝕄) (sendPay X c k) := by
  unfold sendPay; (repeat' split) <;> infer_instance
omit [FloatOps F] in
/-- So can what a barrier signal hands over. -/
instance barPay_storable (c : Dev nD) (d : Fin 3) : BI.Storable (upEmb : UEmb _ 𝕄) (barPay (F := F) c d) := by
  unfold barPay; infer_instance

/-! ## The schedule -/

/-- Round 0 of the cells; no cell has a second. -/
def Rd : Rounds.Schedule (GSem nD τ sig) (Fin 3) 𝕄 where
  duties g r := if r = 0 ∧ g.1.2 = .tc then (match cls g.2 with | none => ∅ | some none => Finset.univ | some (some _) => {0}) else ∅
  unitless _ := False
  amount g _ _ := match cls g.2 with | some (some (k, _)) => N k | _ => 1
  payload g _ d := match cls g.2 with
    | none => iprop(emp)
    | some none => barPay g.1.1 d
    | some (some (k, false)) => sendPay X g.1.1 k
    | some (some (k, true)) => recvPay X g.1.1 k
  amount_pos g _ _ _ := by
    split
    · exact N_pos _
    · exact Nat.one_pos

/-- So can every payload of the schedule. -/
instance Rd_payload_storable (g : GSem nD τ sig) (r : ℕ) (d : Fin 3) : BI.Storable (upEmb : UEmb _ 𝕄) ((Rd X).payload g r d) := by
  show BI.Storable upEmb (match cls g.2 with
    | none => iprop(emp)
    | some none => barPay g.1.1 d
    | some (some (k, false)) => sendPay X g.1.1 k
    | some (some (k, true)) => recvPay X g.1.1 k)
  split <;> infer_instance

section Sched
variable (c : Dev nD) (k : Fin 33)

/-- The class of a sender's semaphore. -/
theorem cls_send : cls (.dma (sSem k)) = some (some (k, false)) := cls_csem (some (k, false))
/-- The class of a receiver's semaphore. -/
theorem cls_recv : cls (.dma (rSem k)) = some (some (k, true)) := cls_csem (some (k, true))

/-- A barrier has three duties. -/
theorem duties_bar : (Rd X).duties (barCell c) 0 = Finset.univ := by dsimp only [Rd]; exact if_pos ⟨rfl, rfl⟩
/-- A sender's cell has one duty. -/
theorem duties_send : (Rd X).duties (sendCell c k) 0 = {0} := by dsimp only [Rd]; rw [if_pos ⟨rfl, rfl⟩, cls_send]
/-- A receiver's cell has one duty. -/
theorem duties_recv : (Rd X).duties (recvCell c k) 0 = {0} := by dsimp only [Rd]; rw [if_pos ⟨rfl, rfl⟩, cls_recv]
/-- No cell has a duty after the first round. -/
theorem duties_later (g : GSem nD τ sig) : ∀ r, 1 ≤ r → (Rd X).duties g r = ∅ :=
  fun r hr => if_neg fun h => by omega

/-- A barrier's duty is of one unit. -/
theorem amount_bar (d : Fin 3) : (Rd X).amount (barCell c) 0 d = 1 := rfl
/-- A sender's duty is of what its transfer credits. -/
theorem amount_send (d : Fin 3) : (Rd X).amount (sendCell c k) 0 d = N k := by dsimp only [Rd]; rw [cls_send]
/-- A receiver's duty is of what its transfer credits. -/
theorem amount_recv (d : Fin 3) : (Rd X).amount (recvCell c k) 0 d = N k := by dsimp only [Rd]; rw [cls_recv]

/-- A barrier expects three units. -/
theorem expect_bar : (Rd X).expect (barCell c) 0 = 3 := by
  unfold Schedule.expect Schedule.amountOf; rw [duties_bar]; rfl
/-- A sender's cell expects its transfer's credit. -/
theorem expect_send : (Rd X).expect (sendCell c k) 0 = N k := by
  unfold Schedule.expect Schedule.amountOf; rw [duties_send, Finset.sum_singleton, amount_send]
/-- A receiver's cell expects its transfer's credit. -/
theorem expect_recv : (Rd X).expect (recvCell c k) 0 = N k := by
  unfold Schedule.expect Schedule.amountOf; rw [duties_recv, Finset.sum_singleton, amount_recv]

/-- What a barrier's duty hands over. -/
theorem payload_bar (d : Fin 3) : (Rd X).payload (barCell c) 0 d = barPay c d := rfl
/-- What a sender's duty hands over. -/
theorem payload_send (d : Fin 3) : (Rd X).payload (sendCell c k) 0 d = sendPay X c k := by dsimp only [Rd]; rw [cls_send]
/-- What a receiver's duty hands over. -/
theorem payload_recv (d : Fin 3) : (Rd X).payload (recvCell c k) 0 d = recvPay X c k := by dsimp only [Rd]; rw [cls_recv]

/-- A barrier's whole round hands over the landing buffers of all the device's transfers, -/
theorem rest_bar : bigSep ((Rd X).duties (barCell c) 0 \ ∅) (fun d => (Rd X).payload (barCell c) 0 d)
    = bigSep Finset.univ fun k => junk (F := F) (dst c k) k := by
  rw [Finset.sdiff_empty, duties_bar]
  have himg : Finset.univ.image via = (Finset.univ : Finset (Fin 3)) := by decide
  refine Eq.symm ((BI.bigSep_fiberwise Finset.univ via (fun k => junk (F := F) (dst c k) k)).trans ?_)
  rw [himg]; rfl
/-- a sender's the source it read, -/
theorem rest_send : bigSep ((Rd X).duties (sendCell c k) 0 \ ∅) (fun d => (Rd X).payload (sendCell c k) 0 d) = sendPay X c k := by
  rw [Finset.sdiff_empty, duties_send, bigSep_singleton, payload_send]
/-- a receiver's what has landed. -/
theorem rest_recv : bigSep ((Rd X).duties (recvCell c k) 0 \ ∅) (fun d => (Rd X).payload (recvCell c k) 0 d) = recvPay X c k := by
  rw [Finset.sdiff_empty, duties_recv, bigSep_singleton, payload_recv]

end Sched

/-! ## What a device owes, and the levels -/

/-- After `n` transfers a device owes the receivers of the others their units; -/
def owe (c : Dev nD) (n : ℕ) : CellTallies nD τ sig Unit :=
  ∑ k ∈ Finset.univ.filter (fun k : Fin 33 => n ≤ k.val), tallyAt (recvCell (dst c k) k) () (N k)
/-- before its barrier signals, `p` of them done, also the other neighbours' barriers one unit each. -/
def oweB (c : Dev nD) (p : ℕ) : CellTallies nD τ sig Unit :=
  owe c 0 + ∑ d ∈ Finset.univ.filter (fun d : Fin 3 => p ≤ d.val), tallyAt (barCell (nb c d)) () 1

/-- With one signal a device pays one unit of what it owes. -/
theorem oweB_step (c : Dev nD) (d : Fin 3) : oweB c d.val = oweB c (d.val + 1) + tallyAt (barCell (nb c d)) () 1 := by
  unfold oweB
  have : (Finset.univ.filter fun j : Fin 3 => d.val ≤ j.val) = insert d (Finset.univ.filter fun j : Fin 3 => d.val + 1 ≤ j.val) := by
    ext j; simp only [Finset.mem_filter, Finset.mem_univ, true_and, Finset.mem_insert, Fin.ext_iff]; omega
  rw [this, Finset.sum_insert (by simp), add_comm (tallyAt _ _ _), add_assoc]
/-- After its three signals a device owes its transfers alone. -/
theorem oweB_done (c : Dev nD) : oweB c 3 = owe c 0 := by
  unfold oweB
  rw [Finset.filter_eq_empty_iff.mpr (fun k _ => by have := k.isLt; omega), Finset.sum_empty, add_zero]
/-- With the start of a transfer a device pays what it owes for that transfer. -/
theorem owe_step (c : Dev nD) (k : Fin 33) : owe c k.val = owe c (k.val + 1) + tallyAt (recvCell (dst c k) k) () (N k) := by
  unfold owe
  have : (Finset.univ.filter fun j : Fin 33 => k.val ≤ j.val) = insert k (Finset.univ.filter fun j : Fin 33 => k.val + 1 ≤ j.val) := by
    ext j; simp only [Finset.mem_filter, Finset.mem_univ, true_and, Finset.mem_insert, Fin.ext_iff]; omega
  rw [this, Finset.sum_insert (by simp), add_comm]
/-- After its last transfer a device owes nothing. -/
theorem owe_done (c : Dev nD) : owe c 33 = 0 := by
  unfold owe
  rw [Finset.filter_eq_empty_iff.mpr (fun k _ => by have := k.isLt; omega), Finset.sum_empty]

/-- The tallies of a semaphore: one on each semaphore of a device's core, none elsewhere. -/
def L (g : GSem nD τ sig) : Finset Unit := if g.1.2 = .tc then {()} else ∅
/-- Staging and sender cells at 0, barriers at 1, the receiver's cell of transfer `k` at `k + 2`. -/
def lvS (sm : SemLoc sig) : ℕ := match cls sm with
  | some none => 1
  | some (some (k, true)) => k.val + 2
  | _ => 0
/-- The level of a semaphore. -/
def lv (g : GSem nD τ sig) (_ : Unit) : ℕ := lvS g.2

/-- A semaphore of another thread has no tally. -/
theorem L_of_ne (g : GSem nD τ sig) (h : g.1.2 ≠ .tc) : L g = ∅ := if_neg h
/-- A semaphore of a device's core has one. -/
theorem L_tc (c : Dev nD) (sm : SemLoc sig) : L ((c : Thread nD τ), sm) = {()} := if_pos rfl
/-- A barrier's level. -/
theorem lvS_bar : lvS (.reg barS) = 1 := rfl
/-- A sender's cell has the lowest level. -/
theorem lvS_send (k : Fin 33) : lvS (.dma (sSem k)) = 0 := by unfold lvS; rw [cls_send]
/-- A receiver's cell has a level that grows with its transfer's number. -/
theorem lvS_recv (k : Fin 33) : lvS (.dma (rSem k)) = k.val + 2 := by unfold lvS; rw [cls_recv]

/-- What a device still owes after `n` transfers is to receivers of later ones. -/
theorem owe_pos {c : Dev nD} {n : ℕ} {g : GSem nD τ sig} {u : Unit} (h : 0 < owe c n g u) :
    ∃ k : Fin 33, n ≤ k.val ∧ g = recvCell (dst c k) k := by
  unfold owe at h
  rw [Finset.sum_apply, Finsupp.finset_sum_apply] at h
  obtain ⟨k, hk, hpos⟩ := Finset.exists_ne_zero_of_sum_ne_zero h.ne'
  refine ⟨k, (Finset.mem_filter.mp hk).2, ?_⟩
  rw [tallyAt_apply] at hpos
  by_contra hn
  exact hpos (if_neg fun h' => hn h'.1)

/-- What a device still owes after `p` signals is to barriers or to receivers. -/
theorem oweB_pos {c : Dev nD} {p : ℕ} {g : GSem nD τ sig} {u : Unit} (h : 0 < oweB c p g u) :
    (∃ k : Fin 33, g = recvCell (dst c k) k) ∨ ∃ d, g = barCell (nb c d) := by
  unfold oweB at h
  rw [Pi.add_apply, Finsupp.add_apply, Finset.sum_apply, Finsupp.finset_sum_apply] at h
  by_cases h0 : 0 < owe c 0 g u
  · obtain ⟨k, -, hk⟩ := owe_pos h0
    exact .inl ⟨k, hk⟩
  · have h1 := Nat.eq_zero_of_not_pos h0
    rw [h1, Nat.zero_add] at h
    obtain ⟨d, hd, hpos⟩ := Finset.exists_ne_zero_of_sum_ne_zero h.ne'
    refine .inr ⟨d, ?_⟩
    rw [tallyAt_apply] at hpos
    by_contra hn
    exact hpos (if_neg fun h' => hn h'.1)

omit [FloatOps F] in
/-- A device that still owes the receivers of the transfers from `n` on may wait on a cell below all of theirs. -/
theorem mayWait (c : Dev nD) (sm : SemLoc sig) (n : ℕ) (h : lvS sm < n + 2) :
    (levAts L lv : sProp 𝕄) ⊢ MayWait (c : Thread nD τ) sm () (owe c n) :=
  MayOwe.of_cut (L := L) (lev := lv) (n + 1) (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp]; show lvS sm ≤ _; omega)
    (fun g u hg => by
      obtain ⟨k, hk, rfl⟩ := owe_pos hg
      show n + 1 < lvS _
      rw [lvS_recv]; omega)

omit [FloatOps F] in
/-- The pipeline's own cells may be waited on before the kernel and after it. -/
theorem mayWait_stage (c : Dev nD) (q : DmaSem sig) (hq : lvS (.dma q) = 0) (O : CellTallies nD τ sig Unit) (hO : O = oweB c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨k, rfl⟩ | ⟨d, rfl⟩ <;> exact Finset.mem_singleton_self _)
      (fun p hp => by rw [Finset.mem_singleton.mp hp]; show lvS (.dma q) ≤ _; omega)
      (fun g u hg => by
        rcases oweB_pos hg with ⟨k, rfl⟩ | ⟨d, rfl⟩
        · show 0 < lvS _; rw [lvS_recv]; omega
        · show 0 < lvS _; rw [lvS_bar]; omega)
  · rw [MayWait_zero]; iintro -; iempintro

end Cert.AllReduce

end
-- ==== Proof.State.lean ====
/-
What a device holds at each moment of the all-reduce kernel.

The kernel's operations come in one fixed order, so a moment is told by five counts: `n` copies started, `r` sources
ready, `a` copies whose source has been waited for, `b` landings waited for, `o` blocks of the result stored. `St` says
what the device holds then. `Triple` is the form in which the operations are proved: from one such state a piece of the
program runs to another, and its value satisfies `φ`.
-/
module

public import proofs.«01_k».proof.Proof.Cells

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel needs a variant. -/
abbrev 𝒱₀ : Variants := Variants.none

/-! ## Triples -/

/-- From `P` the program `p` of device `c` runs, its value satisfies `φ`, and `Q` holds after it. -/
def Triple (c : Dev nD) {α : Type} (P : sProp 𝕄) (p : Prog (TpuEff nD τ sig (Elt F) Λ₀ .tc) α) (φ : α → Prop) (Q : sProp 𝕄) : Prop :=
  P ⊢ wp frame (wpE (defs₀ (F := F)) 𝒱₀ (c : Thread nD τ) none) Set.univ p (fun a => iprop(⌜φ a⌝ ∗ Q))

/-- A program that returns at once. -/
theorem Triple.pure (c : Dev nD) {α : Type} {P : sProp 𝕄} {a : α} {φ : α → Prop} (h : φ a) : Triple c P (Pure.pure a) φ P := by
  unfold Triple
  rw [Prog.pure_eq_ret, wp_ret]
  iintro H
  imodintro
  isplitr
  · ipureintro; exact h
  · iexact H

/-- One program after another. -/
theorem Triple.bind {c : Dev nD} {α β : Type} {P Q R : sProp 𝕄} {p : Prog (TpuEff nD τ sig (Elt F) Λ₀ .tc) α}
    {f : α → Prog (TpuEff nD τ sig (Elt F) Λ₀ .tc) β} {φ : α → Prop} {ψ : β → Prop}
    (h : Triple c P p φ Q) (h' : ∀ a, φ a → Triple c Q (f a) ψ R) : Triple c P (p >>= f) ψ R := by
  unfold Triple at *
  rw [wp_bind]
  refine h.trans (wp_mono _ _ _ fun a => ?_)
  iintro ⟨%ha, HQ⟩
  iapply (h' a ha)
  iexact HQ

/-- An operation run with the empty rest of the program, as its rule states it. -/
theorem Triple.of_op {c : Dev nD} {α : Type} {P Q : sProp 𝕄} {e : TpuEff nD τ sig (Elt F) Λ₀ .tc α} {φ : α → Prop}
    (h : P ⊢ wp frame (wpE (defs₀ (F := F)) 𝒱₀ (c : Thread nD τ) none) Set.univ (.op e .ret) (fun a => iprop(⌜φ a⌝ ∗ Q))) :
    Triple c P (Prog.lift e) φ Q := h

/-- A product with one factor apart. -/
theorem bigSep_pick {I : Type} [Fintype I] [DecidableEq I] (k : I) (Φ : I → sProp 𝕄) :
    bigSep Finset.univ Φ = iprop(Φ k ∗ bigSep (Finset.univ.erase k) Φ) := BI.bigSep_univ_split k
/-- A product gives any one of its factors. -/
theorem bigSep_one {I : Type} [Fintype I] [DecidableEq I] (k : I) (Φ : I → sProp 𝕄) : bigSep Finset.univ Φ ⊢ Φ k :=
  bigSep_elim (Finset.mem_univ k)

/-- In a product over all indices one factor may be exchanged if the others stay. -/
theorem bigSep_focus {I : Type} [Fintype I] [DecidableEq I] (k : I) {Φ Ψ : I → sProp 𝕄} (h : ∀ j, j ≠ k → Φ j = Ψ j) :
    bigSep Finset.univ Φ ⊢ iprop(Φ k ∗ (Ψ k -∗ bigSep Finset.univ Ψ)) := by
  rw [bigSep_pick k Φ, bigSep_pick k Ψ,
    bigSep_congr (s := Finset.univ.erase k) (fun j hj => h j (Finset.mem_erase.mp hj).1)]
  iintro ⟨H1, H2⟩
  isplitl [H1]; · iexact H1
  iintro H
  isplitl [H] <;> iassumption

/-! ## The state -/

variable (X : Dev nD → S4096x1024.Idx → F .f32) (K : Dev nD × J → ℕ) (c : Dev nD)

/-- The facts that stay: every cell's invariant, every cell has reached round 0, the levels. -/
def Ctx : sProp 𝕄 :=
  iprop((bigSep Finset.univ fun cj : Dev nD × J => cellInv ER (Rd X) (K cj) (kcell cj))
    ∗ (bigSep Finset.univ fun cj : Dev nD × J => reached ER (kcell cj) 0) ∗ levAts L lv)

/-- The invariants and reached rounds last. -/
instance Ctx_persistent : BI.Persistent (Ctx (F := F) X K) := by unfold Ctx; infer_instance

/-- The context has every cell's invariant. -/
theorem Ctx_inv (cj : Dev nD × J) : Ctx X K ⊢ cellInv ER (Rd X) (K cj) (kcell cj) := by
  unfold Ctx; iintro ⟨H, -, -⟩
  iapply (bigSep_one cj (fun cj : Dev nD × J => cellInv ER (Rd X) (K cj) (kcell cj)))
  iexact H
/-- The context knows that every cell's round is reached. -/
theorem Ctx_reached (cj : Dev nD × J) : Ctx X K ⊢ reached ER (kcell cj) 0 := by
  unfold Ctx; iintro ⟨-, H, -⟩
  iapply (bigSep_one cj (fun cj : Dev nD × J => (reached ER (kcell cj) 0 : sProp 𝕄)))
  iexact H
/-- The sender's side of transfer `k`: not started (the tokens it will use, its landing buffer, and its source if ready),
    in flight, or over. -/
def sendSt (n r a : ℕ) (k : Fin 33) : sProp 𝕄 :=
  if n ≤ k.val then iprop(dutyTok ER (sendCell c k) 0 0 ∗ dutyTok ER (recvCell (dst c k) k) 0 0 ∗ junk (F := F) (dst c k) k
      ∗ atPos ER (sendCell c k) 0 ∅ 0 ∗ (if k.val < r then sendPay X c k else iprop(emp)))
  else if a ≤ k.val then iprop(cred (tallyAt (sendCell c k) () (N k)) ∗ atPos ER (sendCell c k) 0 ∅ 0)
  else iprop(semVal (sendCell c k) 0 ∗ sendPay X c k)

/-- What is kept of a landing whose piece is sent on, or of one that isn't. -/
def keep (k : Fin 33) : sProp 𝕄 :=
  if hasNext k then ((c : Thread nD τ).loc cc0_scratch2) ↦[(pieceR (slot c k)).set]{fullShare.right} ringC X c
  else recvPay X c k

/-- The receiver's side of transfer `k`: to come, or landed. -/
def recvSt (b : ℕ) (k : Fin 33) : sProp 𝕄 :=
  if b ≤ rank k then iprop(cred (tallyAt (recvCell c k) () (N k)) ∗ atPos ER (recvCell c k) 0 ∅ 0)
  else iprop(semVal (recvCell c k) 0 ∗ keep X c k)

/-- The device's own pieces of the ring: any contents until it has stored them, then what is kept of them. -/
def ownSt (r : ℕ) (s : Fin 2) : sProp 𝕄 :=
  if r < 5 + 2 * s.val then iprop(∃ f, ((c : Thread nD τ).loc cc0_scratch2) ↦[(pieceR (pos c, s)).set]{fullShare} f)
  else ((c : Thread nD τ).loc cc0_scratch2) ↦[(pieceR (pos c, s)).set]{fullShare.right} ringC X c

/-- The rows of the input that no copy reads. -/
def restRows : Finset S4096x1024.Idx := ((Finset.univ \ (rowsR (pos c, 0)).set) \ (rowsR (pos c, 1)).set) \ directR.set

/-- What the device keeps of its input: half of all of it, and the other half of what it doesn't send. -/
def xSt : sProp 𝕄 :=
  iprop((((c : Thread nD τ).loc cc0_stg0_0) ↦[Finset.univ]{fullShare.right} X c)
    ∗ (((c : Thread nD τ).loc cc0_stg0_0) ↦[restRows c]{fullShare.left} X c))

/-- The result's buffer with its first `o` blocks stored: piece `j` as block `j - 1`, the direct rows last. -/
def Stored (o : ℕ) (f : S4096x1024.Idx → F .f32) : Prop :=
  (∀ j : Fin 33, 1 ≤ j.val → j.val ≤ o → ∀ i ∈ (rowsR (slot c j)).set, f i = outC X c i)
    ∧ (33 ≤ o → ∀ i ∈ directR.set, f i = outC X c i)
/-- The result after `o` stores. -/
def outSt (o : ℕ) : sProp 𝕄 :=
  iprop(∃ f : S4096x1024.Idx → F .f32, ⌜Stored X c o f⌝ ∗ (((c : Thread nD τ).loc cc0_stg1_0) ↦{fullShare} f))

/-- What the device owes. -/
def owesSt (O : CellTallies nD τ sig Unit) : sProp 𝕄 := iprop(∃ W, owes (c : Thread nD τ) O W)

/-- What the device holds after `n` starts, with `r` sources ready, after `a` waits for sources, `b` waits for landings and
    `o` stores of the result. -/
def St (n r a b o : ℕ) : sProp 𝕄 :=
  iprop(Ctx X K ∗ (bigSep Finset.univ (sendSt X c n r a)) ∗ (bigSep Finset.univ (recvSt X c b)) ∗ (bigSep Finset.univ (ownSt X c r))
    ∗ xSt X c ∗ outSt X c o ∗ owesSt (F := F) c (owe c n) ∗ semVal (barCell c) 0)

/-! ## One transfer's part of the state at each of its turns -/

/-- The start of a transfer changes the sender's side of no other. -/
theorem sendSt_next (n r a : ℕ) (k j : Fin 33) (hn : k.val = n) (h : j ≠ k) : sendSt X c n r a j = sendSt X c (n + 1) r a j := by
  have hv : j.val ≠ k.val := fun e => h (Fin.ext e)
  unfold sendSt
  by_cases h1 : n ≤ j.val
  · rw [if_pos h1, if_pos (show n + 1 ≤ j.val by omega)]
  · rw [if_neg h1, if_neg (show ¬ n + 1 ≤ j.val by omega)]
/-- The wait for a source changes the sender's side of no other. -/
theorem sendSt_wait (n r a : ℕ) (k j : Fin 33) (ha : k.val = a) (h : j ≠ k) : sendSt X c n r a j = sendSt X c n r (a + 1) j := by
  have hv : j.val ≠ k.val := fun e => h (Fin.ext e)
  unfold sendSt
  by_cases h1 : a ≤ j.val
  · rw [if_pos h1, if_pos (show a + 1 ≤ j.val by omega)]
  · rw [if_neg h1, if_neg (show ¬ a + 1 ≤ j.val by omega)]
/-- A source that becomes ready changes the sender's side of no other transfer. -/
theorem sendSt_ready (n r a : ℕ) (k j : Fin 33) (hr : k.val = r) (h : j ≠ k) : sendSt X c n r a j = sendSt X c n (r + 1) a j := by
  have hv : j.val ≠ k.val := fun e => h (Fin.ext e)
  unfold sendSt
  by_cases h1 : j.val < r
  · rw [if_pos h1, if_pos (show j.val < r + 1 by omega)]
  · rw [if_neg h1, if_neg (show ¬ j.val < r + 1 by omega)]
/-- The wait for a landing changes the receiver's side of no other. -/
theorem recvSt_next (b : ℕ) (k j : Fin 33) (hb : rank k = b) (h : j ≠ k) : recvSt X c b j = recvSt X c (b + 1) j := by
  have hv : rank j ≠ rank k := fun e => h ((by decide : ∀ j k : Fin 33, rank j = rank k → j = k) j k e)
  unfold recvSt
  by_cases h1 : b ≤ rank j
  · rw [if_pos h1, if_pos (show b + 1 ≤ rank j by omega)]
  · rw [if_neg h1, if_neg (show ¬ b + 1 ≤ rank j by omega)]

/-- The sender's side of a transfer whose source is ready and which isn't started. -/
theorem sendSt_pending {n r : ℕ} (a : ℕ) {k : Fin 33} (hn : n ≤ k.val) (hr : k.val < r) :
    sendSt X c n r a k = iprop(dutyTok ER (sendCell c k) 0 0 ∗ dutyTok ER (recvCell (dst c k) k) 0 0 ∗ junk (F := F) (dst c k) k
      ∗ atPos ER (sendCell c k) 0 ∅ 0 ∗ sendPay X c k) := by unfold sendSt; rw [if_pos hn, if_pos hr]
/-- That of a transfer whose source isn't ready. -/
theorem sendSt_unready {n r : ℕ} (a : ℕ) {k : Fin 33} (hn : n ≤ k.val) (hr : r ≤ k.val) :
    sendSt X c n r a k = iprop(dutyTok ER (sendCell c k) 0 0 ∗ dutyTok ER (recvCell (dst c k) k) 0 0 ∗ junk (F := F) (dst c k) k
      ∗ atPos ER (sendCell c k) 0 ∅ 0 ∗ emp) := by unfold sendSt; rw [if_pos hn, if_neg (by omega)]
/-- That of a transfer started and not waited for. -/
theorem sendSt_flight {n a : ℕ} (r : ℕ) {k : Fin 33} (hn : k.val < n) (ha : a ≤ k.val) :
    sendSt X c n r a k = iprop(cred (tallyAt (sendCell c k) () (N k)) ∗ atPos ER (sendCell c k) 0 ∅ 0) := by
  unfold sendSt; rw [if_neg (by omega), if_pos ha]
/-- That of a transfer waited for. -/
theorem sendSt_over {n a : ℕ} (r : ℕ) {k : Fin 33} (hn : k.val < n) (ha : k.val < a) :
    sendSt X c n r a k = iprop(semVal (sendCell c k) 0 ∗ sendPay X c k) := by
  unfold sendSt; rw [if_neg (by omega), if_neg (by omega)]
/-- The receiver's side of a landing not waited for. -/
theorem recvSt_pending {b : ℕ} {k : Fin 33} (hb : b ≤ rank k) :
    recvSt X c b k = iprop(cred (tallyAt (recvCell c k) () (N k)) ∗ atPos ER (recvCell c k) 0 ∅ 0) := by unfold recvSt; rw [if_pos hb]
/-- That of a landing waited for. -/
theorem recvSt_landed {b : ℕ} {k : Fin 33} (hb : rank k < b) :
    recvSt X c b k = iprop(semVal (recvCell c k) 0 ∗ keep X c k) := by unfold recvSt; rw [if_neg (by omega)]

end Cert.AllReduce

end
-- ==== Proof.Copies.lean ====
/-
The copies of the all-reduce kernel and the waits for them: each takes a device from one state to the next.
-/
module

public import proofs.«01_k».proof.Proof.State

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x1024.Idx → F .f32) (K : Dev nD × J → ℕ) (c : Dev nD)

/-! ## Starting a copy -/

/-- A copy that reads what transfer `k` reads and lands where it lands, with the right contents, is started: transfer `k`,
    the next in order, its source ready. -/
theorem start_copy {n r a b o : ℕ} (k : Fin 33) (hn : k.val = n) (hr : k.val < r) (ha : a ≤ n) {d : Dev nD} (hd : d = dst c k)
    {sS sR : DmaSem sig} (hS : sS = sSem k) (hR : sR = rSem k)
    {sp sp' : Space} {s : Shape} {src : Memref sig .tc sp s .f32} {tgt : Memref sig .tc sp' s .f32}
    {hsc : (show Memref sig (Dev.tc d : Thread nD τ).2.kind sp' s .f32 from tgt).view.ref.isScScratch = false}
    {h1 : src.view.WordExact} {h2 : tgt.view.WordExact}
    {h3 : DmaTarget.Typed sp (.dma sR) (.remote (Dev.tc d : Thread nD τ) tgt (.dma sS) hsc)}
    (fs : Buf (Elt F) (src.view.loc (c : Thread nD τ)))
    (hsrc : sendPay X c k = (src.view.loc (c : Thread nD τ) ↦[src.view.set]{shareOf k} fs))
    (hjunk : junk (F := F) (dst c k) k ⊢ iprop(∃ fd, (tgt.view.loc (dst c k : Thread nD τ) ↦[tgt.view.set]{fullShare} fd)))
    (hland : ∀ fd, (tgt.view.loc (dst c k : Thread nD τ) ↦[tgt.view.set]{fullShare} (tgt.view.write (Elt F) fd (src.view.read (Elt F) fs) Finset.univ))
      ⊢ recvPay X (dst c k) k)
    (hN : tgt.view.dmaCredit = N k) :
    Triple c (St X K c n r a b o)
      (Prog.lift (.enqueueDma src (.remote (Dev.tc d : Thread nD τ) tgt (.dma sS) hsc) (.dma sR) h1 h2 h3)) (fun _ => True) (St X K c (n + 1) r a b o) := by
  subst hd; subst hS; subst hR; subst hn
  refine Triple.of_op ?_
  unfold St
  iintro ⟨#HC, Hs, Hrv, Hown, Hx, Hout, Ho, Hbar⟩
  ihave Hs' := (bigSep_focus k (Φ := sendSt X c k.val r a) (Ψ := sendSt X c (k.val + 1) r a) (fun j hj => sendSt_next X c _ r a k j rfl hj)) $$ Hs
  icases Hs' with ⟨Hk, Hback⟩
  ihave Hk := (Entails.of_eq (sendSt_pending X c a (le_refl k.val) hr)) $$ Hk
  icases Hk with ⟨HtS, HtR, Hj, Hat, Hsrc⟩
  ihave Hj := hjunk $$ Hj
  icases Hj with ⟨%fd, Hj⟩
  ihave Hsrc := (Entails.of_eq hsrc) $$ Hsrc
  unfold owesSt
  icases Ho with ⟨%W, HO⟩
  iapply (Rounds.wp_send_pointsTo 𝒱₀ ER (Rd X) (c : Thread nD τ) none (κ₁ := K (c, some (k, false))) (κ₂ := K (dst c k, some (k, true)))
    (r₁ := 0) (r₂ := 0) (d₁ := 0) (d₂ := 0) (fd := fd) (fs := fs) (q := shareOf k)
    (by rw [duties_send]; exact Finset.mem_singleton_self _) (by rw [duties_recv]; exact Finset.mem_singleton_self _)
    () () (N k) (show tgt.view.amount (.dma (rSem k)) = N k from hN) (amount_send X c k 0) (amount_recv X (dst c k) k 0) (owe c (k.val + 1)) (owe_step c k) (W := W)
    (by rw [payload_send, hsrc]) (by rw [payload_recv]; exact hland fd)) $$ [Hsrc Hj HO HtS HtR]
  · isplitr; · iapply (Ctx_inv X K (c, some (k, false))); iexact HC
    isplitr; · iapply (Ctx_inv X K (dst c k, some (k, true))); iexact HC
    isplitl [Hsrc]; · iexact Hsrc
    isplitl [Hj]; · iexact Hj
    isplitl [HO]; · iexact HO
    isplitl [HtS]; · iexact HtS
    isplitr; · iapply (Ctx_reached X K (c, some (k, false))); iexact HC
    isplitl [HtR]; · iexact HtR
    iapply (Ctx_reached X K (dst c k, some (k, true))); iexact HC
  iintro ⟨Hcr, HO⟩
  rw [wp_ret]
  imodintro
  isplitr; · ipureintro; trivial
  isplitr; · iexact HC
  isplitl [Hback Hat Hcr]
  · iapply Hback
    iapply (Entails.of_eq (sendSt_flight X c r (Nat.lt_succ_self k.val) ha).symm)
    isplitl [Hcr] <;> iassumption
  isplitl [Hrv]; · iexact Hrv
  isplitl [Hown]; · iexact Hown
  isplitl [Hx]; · iexact Hx
  isplitl [Hout]; · iexact Hout
  isplitl [HO]; · iexists W; iexact HO
  iexact Hbar

/-- The chunk copies: half `half k` of the device's own chunk, to the partner's chunk buffer. -/
theorem start_chunk {n r a b o : ℕ} (k : Fin 33) (hk : k.val < 2) (hn : k.val = n) (hr : k.val < r) (ha : a ≤ n) {d : Dev nD} (hd : d = dst c k)
    {sS sR : DmaSem sig} (hS : sS = sSem k) (hR : sR = rSem k) {off off' : Fin 2 → Nat} (hoff : off = roff (pos c, half k)) (hoff' : off' = coff (half k))
    {inb : ∀ x, off x + S80x1024.size x ≤ S4096x1024.size x} {inb' : ∀ x, off' x + S80x1024.size x ≤ S160x1024.size x} {hu hu' hsc h1 h2 h3} :
    Triple c (St X K c n r a b o)
      (Prog.lift (.enqueueDma (xM.slice (Rect.unit (s := S4096x1024) off S80x1024.size inb) hu)
        (.remote (Dev.tc d : Thread nD τ) (kM.slice (Rect.unit (s := S160x1024) off' S80x1024.size inb') hu') (.dma sS) hsc) (.dma sR) h1 h2 h3))
      (fun _ => True) (St X K c (n + 1) r a b o) := by
  subst hoff; subst hoff'
  refine start_copy X K c k hn hr ha hd hS hR (src := rowsM (pos c, half k)) (tgt := halfM (half k)) (X c) ?_ ?_ ?_ ?_
  · unfold sendPay; rw [if_pos hk, set_rowsM]
  · unfold junk landPts
    iintro ⟨%fk, %fd, %fg, H⟩
    iexists fk
    rw [if_pos hk, set_halfM]; exact Entails.refl _
  · intro fd
    unfold recvPay landPts
    rw [if_pos hk, dst_partner c k (by omega), set_halfM]
    exact Entails.of_eq (pointsTo_congr (half_landed X c (half k) fd))
  · rw [N_ne k (by omega)]

/-- The direct copy: the device's direct rows, to the partner's direct buffer. -/
theorem start_direct {r a b o : ℕ} (hr : 2 < r) (ha : a ≤ 2) {d : Dev nD} (hd : d = dst c 2)
    {sS sR : DmaSem sig} (hS : sS = sSem 2) (hR : sR = rSem 2) {hu hsc h1 h2 h3} :
    Triple c (St X K c 2 r a b o)
      (Prog.lift (.enqueueDma (xM.slice directR hu) (.remote (Dev.tc d : Thread nD τ) dM (.dma sS) hsc) (.dma sR) h1 h2 h3))
      (fun _ => True) (St X K c 3 r a b o) := by
  refine start_copy X K c 2 rfl hr ha hd hS hR (src := directM) (tgt := dM) (X c) ?_ ?_ ?_ ?_
  · unfold sendPay; rw [if_neg (by decide), if_pos (show (2 : Fin 33).val = 2 from rfl), set_directM]
  · unfold junk landPts
    iintro ⟨%fk, %fd, %fg, H⟩
    iexists fd
    rw [if_neg (by decide), if_pos (show (2 : Fin 33).val = 2 from rfl), set_dM]; exact Entails.refl _
  · intro fd
    unfold recvPay landPts
    rw [if_neg (by decide), if_pos (show (2 : Fin 33).val = 2 from rfl), dst_partner c 2 (by decide), set_dM, direct_landed]
  · rfl

/-- The ring copies: a piece, to the same piece of a neighbour's ring buffer. -/
theorem start_ring {n r a b o : ℕ} (k : Fin 33) (hk : 3 ≤ k.val) (hn : k.val = n) (hr : k.val < r) (ha : a ≤ n) {d : Dev nD} (hd : d = dst c k)
    {sS sR : DmaSem sig} (hS : sS = sSem k) (hR : sR = rSem k) {off : Fin 3 → Nat} (hoff : off = poff (slot c (prev k)))
    {inb inb' : ∀ x, off x + S1x80x1024.size x ≤ S16x160x1024.size x} {hu hu' hq hq' hsc h1 h2 h3} :
    Triple c (St X K c n r a b o)
      (Prog.lift (.enqueueDma ((gM.slice (Rect.unit (s := S16x160x1024) off S1x80x1024.size inb) hu).squeeze S80x1024 hq)
        (.remote (Dev.tc d : Thread nD τ) ((gM.slice (Rect.unit (s := S16x160x1024) off S1x80x1024.size inb') hu').squeeze S80x1024 hq') (.dma sS) hsc)
        (.dma sR) h1 h2 h3))
      (fun _ => True) (St X K c (n + 1) r a b o) := by
  subst hoff
  refine start_copy X K c k hn hr ha hd hS hR (src := pieceM (slot c (prev k))) (tgt := pieceM (slot c (prev k))) (ringC X c) ?_ ?_ ?_ ?_
  · unfold sendPay; rw [if_neg (by omega), if_neg (by omega), set_pieceM]
  · unfold junk landPts
    iintro ⟨%fk, %fd, %fg, H⟩
    iexists fg
    rw [if_neg (by omega), if_neg (by omega), set_pieceM, rel_via k hk c]; exact Entails.refl _
  · intro fd
    unfold recvPay landPts
    rw [if_neg (by omega), if_neg (by omega), set_pieceM, rel_via k hk c, ringC_dst X c k hk]
    exact Entails.of_eq (pointsTo_congr (piece_landed (slot c (prev k)) fd (ringC X c)))
  · rw [N_ne k (by omega)]

/-! ## Waiting for a copy -/

/-- A device that has started `n` transfers may wait on a semaphore whose level is below those of the rest. -/
theorem Ctx_mayWait (sm : SemLoc sig) (n : ℕ) (h : lvS sm < n + 2) : Ctx X K ⊢ MayWait (c : Thread nD τ) sm () (owe c n) := by
  unfold Ctx; iintro ⟨-, -, H⟩; iapply (mayWait c sm n h); iexact H

/-- The wait for a copy's source: transfer `k`, the next in order; the source comes back and the semaphore is at zero. -/
theorem wait_source {n r a b o : ℕ} (k : Fin 33) (ha : k.val = a) (hn : k.val < n)
    {sm : DmaSem sig} (hS : sm = sSem k) {sp sp' : Space} {s s' : Shape} {src : Memref sig .tc sp s .f32} {tgt : Memref sig .tc sp' s' .f32}
    {h1 : src.view.WordExact} {h2 : tgt.view.WordExact} (hN : tgt.view.dmaCredit = N k) :
    Triple c (St X K c n r a b o) (Prog.lift (.waitDma2 sm src tgt h1 h2)) (fun _ => True) (St X K c n r (a + 1) b o) := by
  subst hS; subst ha
  have hexp : 0 + tgt.view.dmaCredit = (Rd X).expect (sendCell c k) 0 := by rw [Nat.zero_add, expect_send, hN]
  refine Triple.of_op ?_
  unfold St
  iintro ⟨#HC, Hs, Hrv, Hown, Hx, Hout, Ho, Hbar⟩
  ihave Hs' := (bigSep_focus k (Φ := sendSt X c n r k.val) (Ψ := sendSt X c n r (k.val + 1)) (fun j hj => sendSt_wait X c _ r _ k j rfl hj)) $$ Hs
  icases Hs' with ⟨Hk, Hback⟩
  ihave Hk := (Entails.of_eq (sendSt_flight X c r hn (le_refl k.val))) $$ Hk
  icases Hk with ⟨Hcr, Hat⟩
  unfold owesSt
  icases Ho with ⟨%W, HO⟩
  iapply (Rounds.wp_wait_rest_token 𝒱₀ ER (Rd X) (c : Thread nD τ) none (κ := K (c, some (k, false)))
    (wpE_waitDma2_eq 𝒱₀ (c : Thread nD τ) none Set.univ) (Set.mem_univ _) () (O := owe c n) (W := W) (R := 0) (m := 0) (T := ∅)
    hexp) $$ [Hcr HO Hat]
  · isplitr; · iapply (Ctx_inv X K (c, some (k, false))); iexact HC
    isplitl [Hcr]; · rw [hN]; iexact Hcr
    isplitl [HO]; · iexact HO
    isplitr
    · iapply (Ctx_mayWait X K c (.dma (sSem k)) n (by rw [lvS_send]; exact Nat.succ_pos _)); iexact HC
    iexact Hat
  iintro ⟨HO, Hat, -, Hpay⟩
  ihave Hpay := (Entails.of_eq (rest_send X c k)) $$ Hpay
  imod (Rounds.cell_close ER (Rd X) (Set.mem_univ (K (c, some (k, false)))) (fun h => h) (R := 0 + 1) (duties_later X (sendCell c k))) $$ [Hat] with Hz
  · isplitr; · iapply (Ctx_inv X K (c, some (k, false))); iexact HC
    iexact Hat
  rw [wp_ret]
  imodintro
  isplitr; · ipureintro; trivial
  isplitr; · iexact HC
  isplitl [Hback Hz Hpay]
  · iapply Hback
    iapply (Entails.of_eq (sendSt_over X c r hn (Nat.lt_succ_self k.val)).symm)
    isplitl [Hz] <;> iassumption
  isplitl [Hrv]; · iexact Hrv
  isplitl [Hown]; · iexact Hown
  isplitl [Hx]; · iexact Hx
  isplitl [Hout]; · iexact Hout
  isplitl [HO]; · iexists _; iexact HO
  iexact Hbar

/-- The wait for a landing, what has landed split by `hsplit` into what is kept and some `G`, which is put to use at once:
    with it the senders' side and the own pieces go from `r` ready sources to `r'`. -/
theorem wait_landing_core {n r r' a b o : ℕ} (k : Fin 33) (hb : rank k = b) (hn : k.val < n)
    {sm : DmaSem sig} (hR : sm = rSem k) {sp sp' : Space} {s s' : Shape} {src : Memref sig .tc sp s .f32} {tgt : Memref sig .tc sp' s' .f32}
    {h1 : src.view.WordExact} {h2 : tgt.view.WordExact} (hN : tgt.view.dmaCredit = N k) (G : sProp 𝕄)
    (hsplit : recvPay X c k ⊢ iprop(keep X c k ∗ G))
    (huse : iprop(G ∗ bigSep Finset.univ (sendSt X c n r a)) ⊢ bigSep Finset.univ (sendSt X c n r' a))
    (hown : ownSt X c r = ownSt X c r') :
    Triple c (St X K c n r a b o) (Prog.lift (.waitDma2 sm src tgt h1 h2)) (fun _ => True) (St X K c n r' a (b + 1) o) := by
  subst hR; subst hb
  have hexp : 0 + tgt.view.dmaCredit = (Rd X).expect (recvCell c k) 0 := by rw [Nat.zero_add, expect_recv, hN]
  refine Triple.of_op ?_
  unfold St
  iintro ⟨#HC, Hs, Hrv, Hown, Hx, Hout, Ho, Hbar⟩
  ihave Hrv' := (bigSep_focus k (Φ := recvSt X c (rank k)) (Ψ := recvSt X c (rank k + 1)) (fun j hj => recvSt_next X c _ k j rfl hj)) $$ Hrv
  icases Hrv' with ⟨Hk, Hback⟩
  ihave Hk := (Entails.of_eq (recvSt_pending X c (le_refl (rank k)))) $$ Hk
  icases Hk with ⟨Hcr, Hat⟩
  unfold owesSt
  icases Ho with ⟨%W, HO⟩
  iapply (Rounds.wp_wait_rest_token 𝒱₀ ER (Rd X) (c : Thread nD τ) none (κ := K (c, some (k, true)))
    (wpE_waitDma2_eq 𝒱₀ (c : Thread nD τ) none Set.univ) (Set.mem_univ _) () (O := owe c n) (W := W) (R := 0) (m := 0) (T := ∅)
    hexp) $$ [Hcr HO Hat]
  · isplitr; · iapply (Ctx_inv X K (c, some (k, true))); iexact HC
    isplitl [Hcr]; · rw [hN]; iexact Hcr
    isplitl [HO]; · iexact HO
    isplitr
    · iapply (Ctx_mayWait X K c (.dma (rSem k)) n (by rw [lvS_recv]; exact Nat.add_lt_add_right hn 2)); iexact HC
    iexact Hat
  iintro ⟨HO, Hat, -, Hpay⟩
  ihave Hpay := (Entails.of_eq (rest_recv X c k)) $$ Hpay
  ihave Hpay := hsplit $$ Hpay
  icases Hpay with ⟨Hkeep, HG⟩
  imod (Rounds.cell_close ER (Rd X) (Set.mem_univ (K (c, some (k, true)))) (fun h => h) (R := 0 + 1) (duties_later X (recvCell c k))) $$ [Hat] with Hz
  · isplitr; · iapply (Ctx_inv X K (c, some (k, true))); iexact HC
    iexact Hat
  rw [wp_ret]
  imodintro
  isplitr; · ipureintro; trivial
  isplitr; · iexact HC
  isplitl [HG Hs]
  · iapply huse; isplitl [HG] <;> iassumption
  isplitl [Hback Hz Hkeep]
  · iapply Hback
    iapply (Entails.of_eq (recvSt_landed X c (Nat.lt_succ_self (rank k))).symm)
    isplitl [Hz] <;> iassumption
  isplitl [Hown]; · iapply (Entails.of_eq (congrArg (bigSep Finset.univ) hown)); iexact Hown
  isplitl [Hx]; · iexact Hx
  isplitl [Hout]; · iexact Hout
  isplitl [HO]; · iexists _; iexact HO
  iexact Hbar

/-- The wait for a landing that is not sent on. -/
theorem wait_landing {n r a b o : ℕ} (k : Fin 33) (hk : hasNext k = false) (hb : rank k = b) (hn : k.val < n)
    {sm : DmaSem sig} (hR : sm = rSem k) {sp sp' : Space} {s s' : Shape} {src : Memref sig .tc sp s .f32} {tgt : Memref sig .tc sp' s' .f32}
    {h1 : src.view.WordExact} {h2 : tgt.view.WordExact} (hN : tgt.view.dmaCredit = N k) :
    Triple c (St X K c n r a b o) (Prog.lift (.waitDma2 sm src tgt h1 h2)) (fun _ => True) (St X K c n r a (b + 1) o) := by
  refine wait_landing_core X K c k hb hn hR hN iprop(emp) ?_ ?_ rfl
  · unfold keep; rw [hk, if_neg (by decide)]
    iintro H; isplitl; · iexact H
    iempintro
  · iintro ⟨-, H⟩; iexact H

/-- A piece landed: half is kept, half is the source of the copy that sends it on. -/
theorem landing_split (k : Fin 33) (hk : hasNext k = true) (h3 : 3 ≤ k.val) : recvPay X c k ⊢ iprop(keep X c k ∗ sendPay X c (next k)) := by
  obtain ⟨hp, h7⟩ := prev_next k hk
  unfold recvPay landPts keep sendPay shareOf
  rw [if_neg (by omega), if_neg (by omega), if_pos hk, if_neg (by omega), if_neg (by omega), if_neg (by omega), if_neg (by omega), hp]
  refine (pointsTo_share (PosShare.mem_left_op_right fullShare)).1.trans ?_
  iintro ⟨H1, H2⟩
  isplitl [H2] <;> iassumption

/-- A source that has become ready joins its transfer. -/
theorem source_ready {n r a : ℕ} (k : Fin 33) (hr : k.val = r) (hn : n ≤ r) :
    iprop(sendPay X c k ∗ bigSep Finset.univ (sendSt X c n r a)) ⊢ bigSep Finset.univ (sendSt X c n (r + 1) a) := by
  subst hr
  iintro ⟨Hp, Hs⟩
  ihave Hs' := (bigSep_focus k (Φ := sendSt X c n k.val a) (Ψ := sendSt X c n (k.val + 1) a) (fun j hj => sendSt_ready X c n _ a k j rfl hj)) $$ Hs
  icases Hs' with ⟨Hk, Hback⟩
  iapply Hback
  ihave Hk := (Entails.of_eq (sendSt_unready X c a hn (le_refl k.val))) $$ Hk
  icases Hk with ⟨H1, H2, H3, H4, -⟩
  iapply (Entails.of_eq (sendSt_pending X c a hn (Nat.lt_succ_self k.val)).symm)
  isplitl [H1]; · iexact H1
  isplitl [H2]; · iexact H2
  isplitl [H3]; · iexact H3
  isplitl [H4] <;> iassumption

/-- Once both own pieces are stored in the ring buffer, the count of ready sources no longer matters to them. -/
theorem ownSt_late {r r' : ℕ} (h : 7 ≤ r) (h' : 7 ≤ r') : ownSt X c r = ownSt X c r' := by
  funext s
  have hs : s.val < 2 := s.isLt
  unfold ownSt; rw [if_neg (by omega), if_neg (by omega)]

/-- The wait for a piece that is sent on: its copy's source becomes ready. -/
theorem wait_piece {n r a b o : ℕ} (k : Fin 33) (hk : hasNext k = true) (h3 : 3 ≤ k.val) (hb : rank k = b) (hn : k.val < n)
    (hr : (next k).val = r) (hnr : n ≤ r)
    {sm : DmaSem sig} (hR : sm = rSem k) {sp sp' : Space} {s s' : Shape} {src : Memref sig .tc sp s .f32} {tgt : Memref sig .tc sp' s' .f32}
    {h1 : src.view.WordExact} {h2 : tgt.view.WordExact} (hN : tgt.view.dmaCredit = N k) :
    Triple c (St X K c n r a b o) (Prog.lift (.waitDma2 sm src tgt h1 h2)) (fun _ => True) (St X K c n (r + 1) a (b + 1) o) := by
  have h7 := (prev_next k hk).2
  exact wait_landing_core X K c k hb hn hR hN _ (landing_split X c k hk h3) (source_ready X c (next k) hr hnr) (ownSt_late X c (by omega) (by omega))

end Cert.AllReduce

end
-- ==== Proof.Memory.lean ====
/-
The loads and stores of the all-reduce kernel: each takes a device from one state to the next.
-/
module

public import proofs.«01_k».proof.Proof.Copies

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x1024.Idx → F .f32) (K : Dev nD × J → ℕ) (c : Dev nD)

/-! ## A load, and a store, from a state that holds the elements it touches -/

/-- A load from elements that the state holds, whatever their share. -/
theorem load_of {P : sProp 𝕄} {cs : CoreSpace} {s : Shape} {m : Memref sig .tc cs s .f32} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S)
    (hP : P ⊢ iprop((m.view.loc (c : Thread nD τ) ↦[S]{q} f) ∗ ((m.view.loc (c : Thread nD τ) ↦[S]{q} f) -∗ P))) :
    Triple c P (Prog.lift (.load m r hl)) (fun v => v = m.view.readAt (Elt F) r f) P := by
  refine Triple.of_op ?_
  iintro H
  ihave H := hP $$ H
  icases H with ⟨Hm, Hback⟩
  iapply (wp_load 𝒱₀ (c : Thread nD τ) none Set.univ (m := m) (r := r) hS) $$ Hm
  iintro Hm
  rw [wp_ret]
  imodintro
  isplitr; · ipureintro; rfl
  iapply Hback; iexact Hm

/-- A load whose value is not used. -/
theorem load_any {P : sProp 𝕄} {cs : CoreSpace} {s : Shape} {m : Memref sig .tc cs s .f32} {r : LoadRect s} {hl : m.view.LoadsAt r}
    {S : Finset (Idx (m.view.loc (c : Thread nD τ)))} {q : PosShare TreeShare}
    (hS : m.view.setOn r.set ⊆ S)
    (hP : P ⊢ iprop(∃ f, (m.view.loc (c : Thread nD τ) ↦[S]{q} f) ∗ ((m.view.loc (c : Thread nD τ) ↦[S]{q} f) -∗ P))) :
    Triple c P (Prog.lift (.load m r hl)) (fun _ => True) P := by
  refine Triple.of_op ?_
  iintro H
  ihave H := hP $$ H
  icases H with ⟨%f, Hm, Hback⟩
  iapply (wp_load 𝒱₀ (c : Thread nD τ) none Set.univ (m := m) (r := r) hS) $$ Hm
  iintro Hm
  rw [wp_ret]
  imodintro
  isplitr; · ipureintro; trivial
  iapply Hback; iexact Hm

/-- A store into elements that the state holds. -/
theorem store_of {P Q : sProp 𝕄} {cs : CoreSpace} {s : Shape} {m : Memref sig .tc cs s .f32} {r : Rect s} {w : r.shape.Idx → Elt F .f32}
    {hx : (m.access r).Stores Finset.univ} {hm : (Finset.univ : Finset r.shape.Idx) = Finset.univ ∨ ∀ a, r.stride a = 1}
    {S : Finset (Idx ((m.access r).loc (c : Thread nD τ)))}
    (hS : (m.access r).setOn Finset.univ ⊆ S)
    (hP : P ⊢ iprop(∃ f : Buf (Elt F) ((m.access r).loc (c : Thread nD τ)), ((m.access r).loc (c : Thread nD τ) ↦[S]{fullShare} f)
      ∗ (((m.access r).loc (c : Thread nD τ) ↦[S]{fullShare} ((m.access r).write (Elt F) f w Finset.univ)) -∗ Q))) :
    Triple c P (Prog.lift (.store m r w Finset.univ hx hm)) (fun _ => True) Q := by
  refine Triple.of_op ?_
  iintro H
  ihave H := hP $$ H
  icases H with ⟨%f, Hm, Hback⟩
  iapply (wp_store 𝒱₀ (c : Thread nD τ) none Set.univ (m := m) (r := r) (w := w) (Mk := Finset.univ) hS) $$ Hm
  iintro Hm
  rw [wp_ret]
  imodintro
  isplitr; · ipureintro; trivial
  iapply Hback; iexact Hm

/-- A load through a rectangle of a whole buffer reads the rectangle's elements, -/
theorem set_load (b : Ref sig .tc) (q : Rect b.ty.shape) : (View.whole b).setOn q.toLoadRect.set ⊆ q.set :=
  le_of_eq ((View.set_slice (View.whole b) q).symm.trans (View.set_slice_whole b q))
/-- and a store writes them. -/
theorem set_store (b : Ref sig .tc) (q : Rect b.ty.shape) : ((View.whole b).slice q).setOn Finset.univ ⊆ q.set :=
  le_of_eq ((View.setOn_univ _).trans (View.set_slice_whole b q))

/-! ## Taking one buffer out of the state -/

/-- The input, of which any element may be read. -/
theorem St_x {n r a b o : ℕ} : St X K c n r a b o ⊢ iprop((((c : Thread nD τ).loc cc0_stg0_0) ↦[Finset.univ]{fullShare.right} X c)
    ∗ ((((c : Thread nD τ).loc cc0_stg0_0) ↦[Finset.univ]{fullShare.right} X c) -∗ St X K c n r a b o)) := by
  unfold St xSt
  iintro ⟨HC, Hs, Hrv, Hown, ⟨Hx, Hx'⟩, Hrest⟩
  isplitl [Hx]; · iexact Hx
  iintro Hx
  isplitl [HC]; · iexact HC
  isplitl [Hs]; · iexact Hs
  isplitl [Hrv]; · iexact Hrv
  isplitl [Hown]; · iexact Hown
  isplitl [Hx Hx']; · isplitl [Hx] <;> iassumption
  iexact Hrest

/-- The result's buffer, changed or not. -/
theorem St_out {n r a b o : ℕ} (o' : ℕ) : St X K c n r a b o ⊢ iprop(∃ f : S4096x1024.Idx → F .f32, ⌜Stored X c o f⌝
    ∗ (((c : Thread nD τ).loc cc0_stg1_0) ↦[Finset.univ]{fullShare} f)
    ∗ (∀ f', (⌜Stored X c o' f'⌝ ∗ (((c : Thread nD τ).loc cc0_stg1_0) ↦[Finset.univ]{fullShare} f')) -∗ St X K c n r a b o')) := by
  unfold St outSt
  iintro ⟨HC, Hs, Hrv, Hown, Hx, ⟨%f, %hf, Ho⟩, Hrest⟩
  iexists f
  isplitr; · ipureintro; exact hf
  isplitl [Ho]; · iexact Ho
  iintro %f' ⟨%hf', Ho⟩
  isplitl [HC]; · iexact HC
  isplitl [Hs]; · iexact Hs
  isplitl [Hrv]; · iexact Hrv
  isplitl [Hown]; · iexact Hown
  isplitl [Hx]; · iexact Hx
  isplitl [Ho]
  · iexists f'
    isplitr; · ipureintro; exact hf'
    iexact Ho
  iexact Hrest

/-- What is kept of a landing. -/
theorem St_landed {n r a b o : ℕ} (k : Fin 33) (hk : rank k < b) :
    St X K c n r a b o ⊢ iprop(keep X c k ∗ (keep X c k -∗ St X K c n r a b o)) := by
  unfold St
  iintro ⟨HC, Hs, Hrv, Hrest⟩
  ihave Hrv' := (bigSep_focus k (Φ := recvSt X c b) (Ψ := recvSt X c b) (fun _ _ => rfl)) $$ Hrv
  icases Hrv' with ⟨Hk, Hback⟩
  ihave Hk := (Entails.of_eq (recvSt_landed X c hk)) $$ Hk
  icases Hk with ⟨Hz, Hk⟩
  isplitl [Hk]; · iexact Hk
  iintro Hk
  isplitl [HC]; · iexact HC
  isplitl [Hs]; · iexact Hs
  isplitl [Hback Hz Hk]
  · iapply Hback
    iapply (Entails.of_eq (recvSt_landed X c hk).symm)
    isplitl [Hz] <;> iassumption
  iexact Hrest

/-- An own piece that isn't stored yet. -/
theorem St_unstored {n r a b o : ℕ} (s : Fin 2) (hs : r < 5 + 2 * s.val) :
    St X K c n r a b o ⊢ iprop(∃ f, (((c : Thread nD τ).loc cc0_scratch2) ↦[(pieceR (pos c, s)).set]{fullShare} f)
      ∗ ((((c : Thread nD τ).loc cc0_scratch2) ↦[(pieceR (pos c, s)).set]{fullShare} f) -∗ St X K c n r a b o)) := by
  have hown : ownSt X c r s = iprop(∃ f, ((c : Thread nD τ).loc cc0_scratch2) ↦[(pieceR (pos c, s)).set]{fullShare} f) := by
    unfold ownSt; rw [if_pos hs]
  unfold St
  iintro ⟨HC, Hs, Hrv, Hown, Hrest⟩
  ihave Hown' := (bigSep_focus s (Φ := ownSt X c r) (Ψ := ownSt X c r) (fun _ _ => rfl)) $$ Hown
  icases Hown' with ⟨Hk, Hback⟩
  ihave Hk := (Entails.of_eq hown) $$ Hk
  icases Hk with ⟨%f, Hk⟩
  iexists f
  isplitl [Hk]; · iexact Hk
  iintro Hk
  isplitl [HC]; · iexact HC
  isplitl [Hs]; · iexact Hs
  isplitl [Hrv]; · iexact Hrv
  isplitl [Hback Hk]
  · iapply Hback
    iapply (Entails.of_eq hown.symm)
    iexists f; iexact Hk
  iexact Hrest

/-- An own piece that is stored. -/
theorem St_own {n r a b o : ℕ} (s : Fin 2) (hs : 5 + 2 * s.val ≤ r) :
    St X K c n r a b o ⊢ iprop((((c : Thread nD τ).loc cc0_scratch2) ↦[(pieceR (pos c, s)).set]{fullShare.right} ringC X c)
      ∗ ((((c : Thread nD τ).loc cc0_scratch2) ↦[(pieceR (pos c, s)).set]{fullShare.right} ringC X c) -∗ St X K c n r a b o)) := by
  have hown : ownSt X c r s = (((c : Thread nD τ).loc cc0_scratch2) ↦[(pieceR (pos c, s)).set]{fullShare.right} ringC X c) := by
    unfold ownSt; rw [if_neg (by omega)]
  unfold St
  iintro ⟨HC, Hs, Hrv, Hown, Hrest⟩
  ihave Hown' := (bigSep_focus s (Φ := ownSt X c r) (Ψ := ownSt X c r) (fun _ _ => rfl)) $$ Hown
  icases Hown' with ⟨Hk, Hback⟩
  ihave Hk := (Entails.of_eq hown) $$ Hk
  isplitl [Hk]; · iexact Hk
  iintro Hk
  isplitl [HC]; · iexact HC
  isplitl [Hs]; · iexact Hs
  isplitl [Hrv]; · iexact Hrv
  isplitl [Hback Hk]
  · iapply Hback
    iapply (Entails.of_eq hown.symm)
    iexact Hk
  iexact Hrest

/-! ## The kernel's loads -/

/-- Rows of the input, of the device's own chunk. -/
theorem load_rows {n r a b o : ℕ} (s : Fin 2) {off : Fin 2 → Nat} (hoff : off = roff (pos c, s))
    {inb : ∀ x, off x + S80x1024.size x ≤ S4096x1024.size x} {hl} :
    Triple c (St X K c n r a b o) (Prog.lift (.load xM (Rect.unit (s := S4096x1024) off S80x1024.size inb).toLoadRect hl))
      (fun v => v = xM.view.readAt (Elt F) (rowsR (pos c, s)).toLoadRect (X c)) (St X K c n r a b o) := by
  subst hoff
  exact load_of c (m := xM) (Finset.subset_univ _) (St_x X K c)

/-- The direct rows of the input. -/
theorem load_direct_rows {n r a b o : ℕ} {hl} :
    Triple c (St X K c n r a b o) (Prog.lift (.load xM directR.toLoadRect hl))
      (fun v => v = xM.view.readAt (Elt F) directR.toLoadRect (X c)) (St X K c n r a b o) :=
  load_of c (m := xM) (Finset.subset_univ _) (St_x X K c)

/-- The result's buffer, whose value isn't used. -/
theorem load_out {n r a b o : ℕ} {q : LoadRect S4096x1024} {hl} :
    Triple c (St X K c n r a b o) (Prog.lift (.load oM q hl)) (fun _ => True) (St X K c n r a b o) := by
  refine load_any c (m := oM) (q := fullShare) (Finset.subset_univ _) ?_
  iintro H
  ihave H := (St_out X K c o) $$ H
  icases H with ⟨%f, %hf, Ho, Hback⟩
  iexists f
  isplitl [Ho]; · iexact Ho
  iintro Ho
  iapply Hback
  isplitr; · ipureintro; exact hf
  iexact Ho

/-- A half of the chunk buffer is what the device keeps of its landing. -/
theorem half_kept (s : Fin 2) : keep X c ⟨s.val, by omega⟩ = (((c : Thread nD τ).loc cc0_scratch1) ↦[(halfR s).set]{fullShare} chunkC X c) := by
  fin_cases s <;> rfl

/-- A half of the chunk buffer. -/
theorem load_half {n r a b o : ℕ} (s : Fin 2) (hb : s.val < b) {off : Fin 2 → Nat} (hoff : off = coff s)
    {inb : ∀ x, off x + S80x1024.size x ≤ S160x1024.size x} {hl} :
    Triple c (St X K c n r a b o) (Prog.lift (.load kM (Rect.unit (s := S160x1024) off S80x1024.size inb).toLoadRect hl))
      (fun v => v = kM.view.readAt (Elt F) (halfR s).toLoadRect (chunkC X c)) (St X K c n r a b o) := by
  subst hoff
  have hk : keep X c ⟨s.val, by omega⟩ = (((c : Thread nD τ).loc cc0_scratch1) ↦[(halfR s).set]{fullShare} chunkC X c) := by
    exact half_kept X c s
  have hr : rank ⟨s.val, by omega⟩ < b := by
    unfold rank; rw [if_pos (show s.val < 2 from s.isLt)]; exact hb
  refine load_of c (m := kM) (S := (halfR s).set) ?_ ((St_landed X K c ⟨s.val, by omega⟩ hr).trans (Entails.of_eq (by rw [hk])))
  exact set_load _ _

/-- The direct buffer. -/
theorem load_direct {n r a b o : ℕ} (hb : 32 < b) {q : LoadRect S1536x1024} {hl} :
    Triple c (St X K c n r a b o) (Prog.lift (.load dM q hl)) (fun v => v = dM.view.readAt (Elt F) q (directC X c)) (St X K c n r a b o) :=
  load_of c (m := dM) (S := Finset.univ) (Finset.subset_univ _) (St_landed X K c 2 hb)

/-- An own piece before it is stored. -/
theorem load_unstored {n r a b o : ℕ} (s : Fin 2) (hs : r < 5 + 2 * s.val) {off : Fin 3 → Nat} (hoff : off = poff (pos c, s))
    {inb : ∀ x, off x + S1x80x1024.size x ≤ S16x160x1024.size x} {hl} :
    Triple c (St X K c n r a b o) (Prog.lift (.load gM (Rect.unit (s := S16x160x1024) off S1x80x1024.size inb).toLoadRect hl))
      (fun _ => True) (St X K c n r a b o) := by
  subst hoff
  refine load_any c (m := gM) (S := (pieceR (pos c, s)).set) (q := fullShare) ?_ (St_unstored X K c s hs)
  exact set_load _ _

/-- The device's own two pieces. -/
theorem own_slot : ∀ (c : Dev nD) (j : Fin 33), 0 < j.val → j.val < 3 → slot c j = (pos c, Fin.ofNat 2 (j.val - 1)) := by decide +kernel

/-- A piece of the ring, an own one or one that has landed. -/
theorem load_piece {n r a b o : ℕ} (j : Fin 33) (hj : (0 < j.val ∧ 3 + 2 * j.val ≤ r ∧ j.val < 3) ∨ (3 ≤ j.val ∧ rank j < b))
    {off : Fin 3 → Nat} (hoff : off = poff (slot c j))
    {inb : ∀ x, off x + S1x80x1024.size x ≤ S16x160x1024.size x} {hl} :
    Triple c (St X K c n r a b o) (Prog.lift (.load gM (Rect.unit (s := S16x160x1024) off S1x80x1024.size inb).toLoadRect hl))
      (fun v => v = gM.view.readAt (Elt F) (pieceR (slot c j)).toLoadRect (ringC X c)) (St X K c n r a b o) := by
  subst hoff
  have hset : gM.view.setOn (pieceR (slot c j)).toLoadRect.set ⊆ (pieceR (slot c j)).set := by
    exact set_load _ _
  rcases hj with ⟨h0, hr, h3⟩ | ⟨h3, hb⟩
  · have hv : (Fin.ofNat 2 (j.val - 1)).val = j.val - 1 := Nat.mod_eq_of_lt (by omega)
    refine load_of c (m := gM) (S := (pieceR (slot c j)).set) (q := fullShare.right) hset ?_
    rw [own_slot c j h0 h3]
    exact St_own X K c (Fin.ofNat 2 (j.val - 1)) (by omega)
  · cases hn : hasNext j
    · refine load_of c (m := gM) (S := (pieceR (slot c j)).set) (q := fullShare) hset ((St_landed X K c j hb).trans (Entails.of_eq ?_))
      unfold keep recvPay landPts
      rw [hn, if_neg (by decide), if_neg (by omega), if_neg (by omega)]
    · refine load_of c (m := gM) (S := (pieceR (slot c j)).set) (q := fullShare.right) hset ((St_landed X K c j hb).trans (Entails.of_eq ?_))
      unfold keep
      rw [hn, if_pos rfl]

/-! ## The kernel's stores -/

/-- A device's own piece: it is kept, and it is the source of two transfers. -/
theorem store_own {n a b o : ℕ} (s : Fin 2) {r : ℕ} (hr : r = 3 + 2 * s.val) (hn : n ≤ r) {off : Fin 3 → Nat} (hoff : off = poff (pos c, s))
    {inb : ∀ x, off x + S1x80x1024.size x ≤ S16x160x1024.size x} {v : S1x80x1024.Idx → F .f32} (hv : v = ownVec X c s) {hx hm} :
    Triple c (St X K c n r a b o) (Prog.lift (.store gM (Rect.unit (s := S16x160x1024) off S1x80x1024.size inb) v Finset.univ hx hm))
      (fun _ => True) (St X K c n (r + 2) a b o) := by
  subst hoff; subst hv
  have hs2 : s.val < 2 := s.isLt
  have hr0 : r < 33 := by omega
  have hr1 : r + 1 < 33 := by omega
  have h1 : ownSt X c r s = iprop(∃ f, ((c : Thread nD τ).loc cc0_scratch2) ↦[(pieceR (pos c, s)).set]{fullShare} f) := by
    unfold ownSt; rw [if_pos (by omega)]
  have h2 : ownSt X c (r + 2) s = (((c : Thread nD τ).loc cc0_scratch2) ↦[(pieceR (pos c, s)).set]{fullShare.right} ringC X c) := by
    unfold ownSt; rw [if_neg (by omega)]
  have h3 : ∀ j, j ≠ s → ownSt X c r j = ownSt X c (r + 2) j := fun j hj => by
    have hv : j.val ≠ s.val := fun e => hj (Fin.ext e)
    have hj2 : j.val < 2 := j.isLt
    unfold ownSt
    by_cases h : r < 5 + 2 * j.val
    · rw [if_pos h, if_pos (show r + 2 < 5 + 2 * j.val by omega)]
    · rw [if_neg h, if_neg (show ¬ r + 2 < 5 + 2 * j.val by omega)]
  have hp : ∀ (u : Fin 2) (k : Fin 33), k.val = 3 + 2 * s.val + u.val → sendPay X c k
      = (((c : Thread nD τ).loc cc0_scratch2) ↦[(pieceR (pos c, s)).set]{if u = 0 then fullShare.left.left else fullShare.left.right} ringC X c) := by
    intro u k hk
    have hu : u.val < 2 := u.isLt
    have hsl : slot c (prev k) = (pos c, s) :=
      (by decide +kernel : ∀ (c : Dev nD) (s u : Fin 2) (k : Fin 33), k.val = 3 + 2 * s.val + u.val → slot c (prev k) = (pos c, s)) c s u k hk
    have hsh : shareOf k = if u = 0 then fullShare.left.left else fullShare.left.right := by
      unfold shareOf
      by_cases h0 : u.val = 0
      · rw [if_pos (show k.val = 3 ∨ k.val = 5 by omega), if_pos (show u = 0 from Fin.ext h0)]
      · rw [if_neg (show ¬ (k.val = 3 ∨ k.val = 5) by omega), if_pos (show k.val = 4 ∨ k.val = 6 by omega), if_neg (fun e => h0 (congrArg Fin.val e))]
    unfold sendPay
    rw [if_neg (by omega), if_neg (by omega), hsl, hsh]
  refine store_of c (m := gM) (S := (pieceR (pos c, s)).set) (set_store _ _) ?_
  unfold St
  iintro ⟨HC, Hs, Hrv, Hown, Hrest⟩
  ihave Hown' := (bigSep_focus s (Φ := ownSt X c r) (Ψ := ownSt X c (r + 2)) h3) $$ Hown
  icases Hown' with ⟨Hk, Hback⟩
  ihave Hk := (Entails.of_eq h1) $$ Hk
  icases Hk with ⟨%f, Hk⟩
  iexists f
  isplitl [Hk]; · iexact Hk
  iintro Hk
  ihave Hk := (Entails.of_eq (pointsTo_congr (own_stored X c s f))) $$ Hk
  ihave Hk := (pointsTo_share (PosShare.mem_left_op_right fullShare)).1 $$ Hk
  icases Hk with ⟨Hl, Hr⟩
  ihave Hl := (pointsTo_share (PosShare.mem_left_op_right fullShare.left)).1 $$ Hl
  icases Hl with ⟨Hll, Hlr⟩
  isplitl [HC]; · iexact HC
  isplitl [Hs Hll Hlr]
  · iapply (source_ready X c (n := n) (r := r + 1) (a := a) ⟨r + 1, hr1⟩ rfl (by omega))
    isplitl [Hlr]
    · iapply (Entails.of_eq ((hp 1 ⟨r + 1, hr1⟩ (congrArg (· + 1) hr)).trans (by rw [if_neg (by decide)])).symm)
      iexact Hlr
    iapply (source_ready X c (n := n) (r := r) (a := a) ⟨r, hr0⟩ rfl hn)
    isplitl [Hll]
    · iapply (Entails.of_eq ((hp 0 ⟨r, hr0⟩ hr).trans (by rw [if_pos rfl])).symm)
      iexact Hll
    iexact Hs
  isplitl [Hrv]; · iexact Hrv
  isplitl [Hback Hr]
  · iapply Hback
    iapply (Entails.of_eq h2.symm)
    iexact Hr
  iexact Hrest

/-- A store into the result's buffer, after which one block more is right. -/
theorem store_out {n r a b o : ℕ} {q : Rect S4096x1024} {v : q.shape.Idx → F .f32} {hx hm}
    (h : ∀ f, Stored X c o f → Stored X c (o + 1) ((oM.access q).write (Elt F) f v Finset.univ)) :
    Triple c (St X K c n r a b o) (Prog.lift (.store oM q v Finset.univ hx hm)) (fun _ => True) (St X K c n r a b (o + 1)) := by
  refine store_of c (m := oM) (S := Finset.univ) (Finset.subset_univ _) ?_
  iintro H
  ihave H := (St_out X K c (o + 1)) $$ H
  icases H with ⟨%f, %hf, Ho, Hback⟩
  iexists f
  isplitl [Ho]; · iexact Ho
  iintro Ho
  iapply Hback
  isplitr; · ipureintro; exact h f hf
  iexact Ho

/-- A block stored on top of others leaves them right if it is right itself. -/
theorem write_out (q : Rect S4096x1024) (v : q.shape.Idx → F .f32) (f : S4096x1024.Idx → F .f32)
    (h : ∀ i ∈ q.set, (oM.access q).write (Elt F) f v Finset.univ i = outC X c i) (i : S4096x1024.Idx) (hi : f i = outC X c i) :
    (oM.access q).write (Elt F) f v Finset.univ i = outC X c i := by
  by_cases hq : i ∈ q.set
  · exact h i hq
  · refine (View.write_of_not_mem (v := oM.access q) (Val := Elt F) f v Finset.univ ?_).trans hi
    exact fun h' => hq (set_store cc0_stg1_0 q h')

/-- A piece, stored in the result: piece `j`, as block `j - 1`. -/
theorem store_piece {n r a b o : ℕ} (j : Fin 33) (hj : j.val = o + 1) {off : Fin 2 → Nat} (hoff : off = roff (slot c j))
    {inb : ∀ x, off x + S80x1024.size x ≤ S4096x1024.size x} {v : S80x1024.Idx → F .f32} (hv : v = pieceVec X c (slot c j)) {hx hm} :
    Triple c (St X K c n r a b o) (Prog.lift (.store oM (Rect.unit (s := S4096x1024) off S80x1024.size inb) v Finset.univ hx hm))
      (fun _ => True) (St X K c n r a b (o + 1)) := by
  subst hoff; subst hv
  refine store_out X K c fun f hf => ⟨fun j' h1 h2 i hi => ?_, fun h => absurd j.isLt (by omega)⟩
  by_cases he : j' = j
  · subst he; exact piece_stored X c (slot c j') f i hi
  · exact write_out X c (rowsR (slot c j)) _ f (piece_stored X c (slot c j) f) i
      (hf.1 j' h1 (by have : j'.val ≠ j.val := fun e => he (Fin.ext e); omega) i hi)

/-- The direct rows, stored in the result as the last block. -/
theorem store_direct {n r a b : ℕ} {v : S1536x1024.Idx → F .f32} (hv : v = directVec X c) {hx hm} :
    Triple c (St X K c n r a b 32) (Prog.lift (.store oM directR v Finset.univ hx hm)) (fun _ => True) (St X K c n r a b 33) := by
  subst hv
  refine store_out X K c fun f hf => ⟨fun j' h1 h2 i hi => ?_, fun _ i hi => direct_stored X c f i hi⟩
  exact write_out X c directR _ f (direct_stored X c f) i (hf.1 j' h1 (by have := j'.isLt; omega) i hi)

end Cert.AllReduce

end
-- ==== Proof.Steps.lean ====
/-
The steps of the all-reduce kernel, each together with the rest of the program it is followed by.
-/
module

public import proofs.«01_k».proof.Proof.Memory

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x1024.Idx → F .f32) (K : Dev nD × J → ℕ) (c : Dev nD)

/-- A device's programs. -/
abbrev Prg (F : FTy → Type) (α : Type) : Type 1 := Prog (TpuEff nD τ sig (Elt F) Λ₀ .tc) α

/-- A function of the kernel's thirteen buffers and semaphore arrays, at those of this kernel's one grid step. -/
abbrev onBufs {α : Sort*} (f : (a0 : Memref sig .tc .vmem S4096x1024 .f32) → a0.IsWhole → (a1 : Memref sig .tc .vmem S4096x1024 .f32) → a1.IsWhole
    → (a2 : Memref sig .tc .vmem S1536x1024 .f32) → a2.IsWhole → (a3 : Memref sig .tc .vmem S160x1024 .f32) → a3.IsWhole
    → (a4 : Memref sig .tc .vmem S16x160x1024 .f32) → a4.IsWhole → DmaSems sig S_ → DmaSems sig S_ → DmaSems sig S2 → DmaSems sig S2
    → DmaSems sig S16 → DmaSems sig S16 → DmaSems sig S14 → DmaSems sig S14 → α) : α :=
  f xM (Memref.isWhole_whole _) oM (Memref.isWhole_whole _) dM (Memref.isWhole_whole _) kM (Memref.isWhole_whole _) gM (Memref.isWhole_whole _)
    cc0_scratch3 cc0_scratch4 cc0_scratch5 cc0_scratch6 cc0_scratch7 cc0_scratch8 cc0_scratch9 cc0_scratch10

/-- The units a copy of a piece of the ring raises, wherever the piece lies: -/
theorem credit_piece {k : Fin 33} (h : k.val ≠ 2) {off : Fin 3 → Nat} {inb : ∀ x, off x + S1x80x1024.size x ≤ S16x160x1024.size x} {hu hq} :
    ((gM.slice (Rect.unit (s := S16x160x1024) off S1x80x1024.size inb) hu).squeeze S80x1024 hq).view.dmaCredit = N k := by rw [N_ne k h]
/-- of rows of the input, -/
theorem credit_rows {k : Fin 33} (h : k.val ≠ 2) {off : Fin 2 → Nat} {inb : ∀ x, off x + S80x1024.size x ≤ S4096x1024.size x} {hu} :
    (xM.slice (Rect.unit (s := S4096x1024) off S80x1024.size inb) hu).view.dmaCredit = N k := by rw [N_ne k h]; rfl
/-- of half of the chunk buffer. -/
theorem credit_half {k : Fin 33} (h : k.val ≠ 2) {off : Fin 2 → Nat} {inb : ∀ x, off x + S80x1024.size x ≤ S160x1024.size x} {hu} :
    (kM.slice (Rect.unit (s := S160x1024) off S80x1024.size inb) hu).view.dmaCredit = N k := by rw [N_ne k h]; rfl

/-- Where the device's own two pieces lie in the ring -/
theorem own1 {off : Fin 3 → Nat} (h : off = poff (pos c, 0)) : off = poff (slot c 1) :=
  h.trans (congrArg poff (own_slot c 1 (by decide) (by decide)).symm)
/-- The second own piece, as the transfers number it. -/
theorem own2 {off : Fin 3 → Nat} (h : off = poff (pos c, 1)) : off = poff (slot c 2) :=
  h.trans (congrArg poff (own_slot c 2 (by decide) (by decide)).symm)
/-- and in the result. -/
theorem rown1 {off : Fin 2 → Nat} (h : off = roff (pos c, 0)) : off = roff (slot c 1) :=
  h.trans (congrArg roff (own_slot c 1 (by decide) (by decide)).symm)
/-- Its rows. -/
theorem rown2 {off : Fin 2 → Nat} (h : off = roff (pos c, 1)) : off = roff (slot c 2) :=
  h.trans (congrArg roff (own_slot c 2 (by decide) (by decide)).symm)

section Steps
variable {β : Type} {ψ : β → Prop} {Q : sProp (MT nD τ sig Unit (Elt F) ℕ UU ℕ)} {n r a b o : ℕ}

/-- A step whose value doesn't matter, then the rest. -/
theorem Triple.step {α : Type} {P R : sProp 𝕄} {p : Prg F α} {f : α → Prg F β} (h : Triple c P p (fun _ => True) R)
    (h' : ∀ v, Triple c R (f v) ψ Q) : Triple c P (p >>= f) ψ Q := h.bind fun v _ => h' v

/-- A copy of a piece of the ring is started. -/
theorem send_piece (k : Fin 33) {off : Fin 3 → Nat} {d : Dev nD} {sS sR : DmaSem sig}
    {inb inb' : ∀ x, off x + S1x80x1024.size x ≤ S16x160x1024.size x} {hu hu' hq hq' hsc h1 h2 h3} {f : PUnit → Prg F β}
    (hd : d.val = (dst c k).val) (hoff : off = poff (slot c (prev k)))
    (h : Triple c (St X K c (n + 1) r a b o) (f ⟨⟩) ψ Q)
    (hk : 3 ≤ k.val := by decide) (hn : k.val = n := by rfl) (hr : k.val < r := by decide) (ha : a ≤ n := by decide)
    (hS : sS = sSem k := by rfl) (hR : sR = rSem k := by rfl) :
    Triple c (St X K c n r a b o)
      (Prog.lift (.enqueueDma ((gM.slice (Rect.unit (s := S16x160x1024) off S1x80x1024.size inb) hu).squeeze S80x1024 hq)
        (.remote (Dev.tc d : Thread nD τ) ((gM.slice (Rect.unit (s := S16x160x1024) off S1x80x1024.size inb') hu').squeeze S80x1024 hq') (.dma sS) hsc)
        (.dma sR) h1 h2 h3) >>= f) ψ Q :=
  (start_ring X K c k hk hn hr ha (Fin.ext hd) hS hR hoff).step c fun _ => h

/-- A piece of the ring that is sent on lands. -/
theorem land_piece (k : Fin 33) {sm : DmaSem sig} {off : Fin 3 → Nat} {inb : ∀ x, off x + S1x80x1024.size x ≤ S16x160x1024.size x} {hu hq}
    {sp : Space} {s : Shape} {src : Memref sig .tc sp s .f32} {h1 h2} {f : PUnit → Prg F β}
    (h : Triple c (St X K c n (r + 1) a (b + 1) o) (f ⟨⟩) ψ Q)
    (hk : hasNext k = true := by rfl) (h3 : 3 ≤ k.val := by decide) (hb : rank k = b := by rfl) (hn : k.val < n := by decide)
    (hr : (next k).val = r := by rfl) (hnr : n ≤ r := by decide) (hR : sm = rSem k := by rfl) :
    Triple c (St X K c n r a b o)
      (Prog.lift (.waitDma2 sm src ((gM.slice (Rect.unit (s := S16x160x1024) off S1x80x1024.size inb) hu).squeeze S80x1024 hq) h1 h2) >>= f) ψ Q :=
  (wait_piece X K c k hk h3 hb hn hr hnr hR (credit_piece (by omega))).step c fun _ => h

/-- A piece of the ring that isn't sent on lands. -/
theorem land_last (k : Fin 33) {sm : DmaSem sig} {off : Fin 3 → Nat} {inb : ∀ x, off x + S1x80x1024.size x ≤ S16x160x1024.size x} {hu hq}
    {sp : Space} {s : Shape} {src : Memref sig .tc sp s .f32} {h1 h2} {f : PUnit → Prg F β}
    (h : Triple c (St X K c n r a (b + 1) o) (f ⟨⟩) ψ Q)
    (hk : hasNext k = false := by rfl) (h3 : k.val ≠ 2 := by decide) (hb : rank k = b := by rfl) (hn : k.val < n := by decide)
    (hR : sm = rSem k := by rfl) :
    Triple c (St X K c n r a b o)
      (Prog.lift (.waitDma2 sm src ((gM.slice (Rect.unit (s := S16x160x1024) off S1x80x1024.size inb) hu).squeeze S80x1024 hq) h1 h2) >>= f) ψ Q :=
  (wait_landing X K c k hk hb hn hR (credit_piece h3)).step c fun _ => h

/-- The source of a copy of a piece of the ring comes back. -/
theorem back_piece (k : Fin 33) {sm : DmaSem sig} {off : Fin 3 → Nat} {inb : ∀ x, off x + S1x80x1024.size x ≤ S16x160x1024.size x} {hu hq}
    {sp : Space} {s : Shape} {src : Memref sig .tc sp s .f32} {h1 h2} {f : PUnit → Prg F β}
    (h : Triple c (St X K c n r (a + 1) b o) (f ⟨⟩) ψ Q)
    (h3 : k.val ≠ 2 := by decide) (ha : k.val = a := by rfl) (hn : k.val < n := by decide) (hS : sm = sSem k := by rfl) :
    Triple c (St X K c n r a b o)
      (Prog.lift (.waitDma2 sm src ((gM.slice (Rect.unit (s := S16x160x1024) off S1x80x1024.size inb) hu).squeeze S80x1024 hq) h1 h2) >>= f) ψ Q :=
  (wait_source X K c k ha hn hS (credit_piece h3)).step c fun _ => h

/-- A piece of the ring is read. -/
theorem read_piece (j : Fin 33) {off : Fin 3 → Nat} {inb : ∀ x, off x + S1x80x1024.size x ≤ S16x160x1024.size x} {hl}
    {f : ((Rect.unit (s := S16x160x1024) off S1x80x1024.size inb).shape.Idx → Elt F .f32) → Prg F β} (hoff : off = poff (slot c j))
    (h : ∀ v, k0_pay4 (F := F) v = pieceVec X c (slot c j) → Triple c (St X K c n r a b o) (f v) ψ Q)
    (hj : (0 < j.val ∧ 3 + 2 * j.val ≤ r ∧ j.val < 3) ∨ (3 ≤ j.val ∧ rank j < b) := by decide) :
    Triple c (St X K c n r a b o) (Prog.lift (.load gM (Rect.unit (s := S16x160x1024) off S1x80x1024.size inb).toLoadRect hl) >>= f) ψ Q :=
  (load_piece X K c j hj hoff).bind fun v hv => h v (by rw [hv]; rfl)

/-- A piece that has been read is stored in the result. -/
theorem put_piece (j : Fin 33) {off : Fin 2 → Nat} {inb inb' : ∀ x, off x + S80x1024.size x ≤ S4096x1024.size x} {hl hx hm}
    {w : S80x1024.Idx → F .f32} {f : PUnit → Prg F β} (hoff : off = roff (slot c j)) (hw : w = pieceVec X c (slot c j))
    (h : Triple c (St X K c n r a b (o + 1)) (f ⟨⟩) ψ Q) (hj : j.val = o + 1 := by rfl) :
    Triple c (St X K c n r a b o)
      (Prog.lift (.load oM (Rect.unit (s := S4096x1024) off S80x1024.size inb).toLoadRect hl) >>= fun _ =>
        Prog.lift (.store oM (Rect.unit (s := S4096x1024) off S80x1024.size inb') w Finset.univ hx hm) >>= f) ψ Q :=
  (load_out X K c).step c fun _ => (store_piece X K c j hj hoff hw).step c fun _ => h

/-- A piece is read and stored in the result. -/
theorem move_piece (j : Fin 33) {off : Fin 3 → Nat} {inb : ∀ x, off x + S1x80x1024.size x ≤ S16x160x1024.size x} {hl}
    {off' : Fin 2 → Nat} {inb' inb'' : ∀ x, off' x + S80x1024.size x ≤ S4096x1024.size x} {hl' hx hm}
    {w : ((Rect.unit (s := S16x160x1024) off S1x80x1024.size inb).shape.Idx → Elt F .f32) → S80x1024.Idx → F .f32}
    {f : ((Rect.unit (s := S16x160x1024) off S1x80x1024.size inb).shape.Idx → Elt F .f32) → PUnit → Prg F β}
    (hoff : off = poff (slot c j)) (hoff' : off' = roff (slot c j))
    (h : ∀ v, Triple c (St X K c n r a b (o + 1)) (f v ⟨⟩) ψ Q)
    (hw : ∀ v, w v = k0_pay4 (F := F) v := by exact fun _ => rfl)
    (hj : (0 < j.val ∧ 3 + 2 * j.val ≤ r ∧ j.val < 3) ∨ (3 ≤ j.val ∧ rank j < b) := by decide) (hj' : j.val = o + 1 := by rfl) :
    Triple c (St X K c n r a b o)
      (Prog.lift (.load gM (Rect.unit (s := S16x160x1024) off S1x80x1024.size inb).toLoadRect hl) >>= fun v =>
        Prog.lift (.load oM (Rect.unit (s := S4096x1024) off' S80x1024.size inb').toLoadRect hl') >>= fun _ =>
        Prog.lift (.store oM (Rect.unit (s := S4096x1024) off' S80x1024.size inb'') (w v) Finset.univ hx hm) >>= f v) ψ Q :=
  read_piece X K c j hoff (fun v hv => put_piece X K c j hoff' ((hw v).trans hv) (h v) hj') hj

end Steps

end Cert.AllReduce

end
-- ==== Proof.Start.lean ====
/-
The barrier of the all-reduce kernel, and the parts of the kernel before and around it.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Triple (step)

variable {F : FTy → Type} [FloatOps F]

variable (X : Dev nD → S4096x1024.Idx → F .f32) (K : Dev nD × J → ℕ) (c : Dev nD)

/-! ## The state before the barrier -/

/-- The sender's side of a transfer before the barrier: what the transfer will use but its landing buffer. -/
def sendSt₀ (k : Fin 33) : sProp (MT nD τ sig Unit (Elt F) ℕ UU ℕ) :=
  iprop(dutyTok ER (sendCell c k) 0 0 ∗ dutyTok ER (recvCell (dst c k) k) 0 0
    ∗ atPos ER (sendCell c k) 0 ∅ 0 ∗ (if k.val < 3 then sendPay X c k else iprop(emp)))

/-- The signal to neighbour `d`, if it isn't among the first `p`: its token, and the buffers handed over with it. -/
def sigSt (p : ℕ) (d : Fin 3) : sProp (MT nD τ sig Unit (Elt F) ℕ UU ℕ) :=
  if p ≤ d.val then iprop(dutyTok ER (barCell (nb c d)) 0 (opp d) ∗ barPay (F := F) (nb c d) (opp d)) else iprop(emp)

/-- What the device holds after `p` signals. -/
def Pre (p : ℕ) : sProp (MT nD τ sig Unit (Elt F) ℕ UU ℕ) :=
  iprop(Ctx X K ∗ (bigSep Finset.univ (sendSt₀ X c)) ∗ (bigSep Finset.univ (recvSt X c 0)) ∗ (bigSep Finset.univ (ownSt X c 3))
    ∗ xSt X c ∗ outSt X c 0 ∗ owesSt (F := F) c (oweB c p) ∗ (bigSep Finset.univ (sigSt (F := F) c p))
    ∗ cred (tallyAt (barCell c) () 3) ∗ atPos ER (barCell c) 0 ∅ 0)

/-- A signal changes the state of no other signal. -/
theorem sigSt_next (p : ℕ) (d j : Fin 3) (hp : d.val = p) (h : j ≠ d) : sigSt (F := F) c p j = sigSt c (p + 1) j := by
  have hv : j.val ≠ d.val := fun e => h (Fin.ext e)
  unfold sigSt
  by_cases h1 : p ≤ j.val
  · rw [if_pos h1, if_pos (show p + 1 ≤ j.val by omega)]
  · rw [if_neg h1, if_neg (show ¬ p + 1 ≤ j.val by omega)]

/-- The device signals neighbour `d`'s barrier. -/
theorem signal_bar {p : ℕ} (d : Fin 3) (hp : d.val = p) {e : Dev nD} (he : e.val = (nb c d).val) :
    Triple c (Pre X K c p) (semSignalWord e barS 1#32 : Prg F PUnit) (fun _ => True) (Pre X K c (p + 1)) := by
  obtain rfl : e = nb c d := Fin.ext he
  subst hp
  refine Triple.of_op (e := .semSignal ((nb c d : Dev nD), .tc) barS (1#32).toInt) ?_
  unfold Pre
  iintro ⟨#HC, Hs, Hrv, Hown, Hx, Hout, Ho, Hsig, Hcr, Hat⟩
  ihave Hs' := (bigSep_focus d (Φ := sigSt (F := F) c d.val) (Ψ := sigSt c (d.val + 1)) (fun j hj => sigSt_next c _ d j rfl hj)) $$ Hsig
  icases Hs' with ⟨Hd, Hback⟩
  ihave Hd := (Entails.of_eq (show sigSt (F := F) c d.val d = _ from if_pos (le_refl d.val))) $$ Hd
  icases Hd with ⟨Htok, Hpay⟩
  unfold owesSt
  icases Ho with ⟨%W, HO⟩
  iapply (Rounds.wp_signal 𝒱₀ ER (Rd X) (c : Thread nD τ) none (dst := (nb c d : Thread nD τ)) (κ := K (nb c d, none)) (d := opp d)
    (by rw [duties_bar]; exact Finset.mem_univ _) ((amount_bar X (nb c d) (opp d)).trans (by decide)) () (oweB c (d.val + 1)) (oweB_step c d))
    $$ [HO Htok Hpay]
  · isplitr; · iapply (Ctx_inv X K (nb c d, none)); iexact HC
    isplitl [HO]; · iexact HO
    isplitl [Htok]; · iexact Htok
    isplitl [Hpay]; · rw [payload_bar]; iexact Hpay
    iapply (Ctx_reached X K (nb c d, none)); iexact HC
  iintro HO
  rw [wp_ret]
  imodintro
  isplitr; · ipureintro; trivial
  isplitr; · iexact HC
  isplitl [Hs]; · iexact Hs
  isplitl [Hrv]; · iexact Hrv
  isplitl [Hown]; · iexact Hown
  isplitl [Hx]; · iexact Hx
  isplitl [Hout]; · iexact Hout
  isplitl [HO]; · iexists _; iexact HO
  isplitl [Hback]
  · iapply Hback
    iapply (Entails.of_eq (show sigSt (F := F) c (d.val + 1) d = _ from if_neg (Nat.not_succ_le_self d.val)).symm)
    iempintro
  isplitl [Hcr] <;> iassumption

/-- With its landing buffer a transfer has all that it will use. -/
theorem sendSt_join (k : Fin 33) : iprop(sendSt₀ X c k ∗ junk (F := F) (dst c k) k) ⊢ sendSt X c 0 3 0 k := by
  unfold sendSt₀ sendSt
  rw [if_pos (Nat.zero_le _)]
  iintro ⟨⟨H1, H2, H3, H4⟩, H5⟩
  isplitl [H1]; · iexact H1
  isplitl [H2]; · iexact H2
  isplitl [H5]; · iexact H5
  isplitl [H3] <;> iassumption

/-- After the barrier the transfers have their landing buffers. -/
theorem sends_join : iprop(bigSep Finset.univ (sendSt₀ X c) ∗ bigSep Finset.univ fun k => junk (F := F) (dst c k) k)
    ⊢ bigSep Finset.univ (sendSt X c 0 3 0) :=
  (Entails.of_eq (bigSep_sep' _ _ _).symm).trans (bigSep_mono fun k _ => sendSt_join X c k)

/-- The device waits for its three neighbours. -/
theorem wait_bar : Triple c (Pre X K c 3) (semWaitWord barS 3#32 : Prg F PUnit) (fun _ => True) (St X K c 0 3 0 0 0) := by
  refine Triple.of_op (e := .semWait barS (3#32).toInt) ?_
  unfold Pre St
  rw [oweB_done]
  iintro ⟨#HC, Hs, Hrv, Hown, Hx, Hout, Ho, -, Hcr, Hat⟩
  unfold owesSt
  icases Ho with ⟨%W, HO⟩
  have hexp : 0 + (3#32).toInt.toNat = (Rd X).expect (barCell c) 0 := by rw [expect_bar]; rfl
  iapply (Rounds.wp_wait_rest_token 𝒱₀ ER (Rd X) (c : Thread nD τ) none (κ := K (c, none))
    (wpE_semWait_eq 𝒱₀ (c : Thread nD τ) none Set.univ) (Set.mem_univ _) () (O := owe c 0) (W := W) (R := 0) (m := 0) (T := ∅)
    hexp) $$ [Hcr HO Hat]
  · isplitr; · iapply (Ctx_inv X K (c, none)); iexact HC
    isplitl [Hcr]; · iexact Hcr
    isplitl [HO]; · iexact HO
    isplitr
    · iapply (Ctx_mayWait X K c (.reg barS) 0 (by rw [lvS_bar]; decide)); iexact HC
    iexact Hat
  iintro ⟨HO, Hat, -, Hpay⟩
  ihave Hpay := (Entails.of_eq (rest_bar X c)) $$ Hpay
  imod (Rounds.cell_close ER (Rd X) (Set.mem_univ (K (c, none))) (fun h => h) (R := 0 + 1) (duties_later X (barCell c))) $$ [Hat] with Hz
  · isplitr; · iapply (Ctx_inv X K (c, none)); iexact HC
    iexact Hat
  rw [wp_ret]
  imodintro
  isplitr; · ipureintro; trivial
  isplitr; · iexact HC
  isplitl [Hs Hpay]
  · iapply (sends_join X c)
    isplitl [Hs] <;> iassumption
  isplitl [Hrv]; · iexact Hrv
  isplitl [Hown]; · iexact Hown
  isplitl [Hx]; · iexact Hx
  isplitl [Hout]; · iexact Hout
  isplitl [HO]; · iexists _; iexact HO
  iexact Hz

/-! ## The parts -/

/-- The first part asks for the device's number. -/
theorem part1 {P : sProp (MT nD τ sig Unit (Elt F) ℕ UU ℕ)} : Triple c P (onBufs (k0_part1 (F := F))) (fun p => p.1 = c) P := by
  rw [k0_part1_eq_skeleton]
  refine Triple.bind (φ := fun d => d = c) (Q := P) (Triple.of_op ?_) fun d hd => .pure c hd
  rw [wp_deviceId, wp_ret]
  iintro H
  imodintro
  isplitr
  · ipureintro; rfl
  · iexact H
/-- A part that only computes. -/
theorem part2 (v11 v29 : BitVec 32) (v30 : BitVec 1) {P : sProp (MT nD τ sig Unit (Elt F) ℕ UU ℕ)} :
    Triple c P (onBufs (k0_part2 (F := F)) v11 v29 v30) (fun _ => True) P := by
  rw [k0_part2_eq_skeleton]
  exact .pure c trivial
/-- A part that only computes. -/
theorem part3 (v41 v59 c10_i32_41 : BitVec 32) {P : sProp (MT nD τ sig Unit (Elt F) ℕ UU ℕ)} :
    Triple c P (onBufs (k0_part3 (F := F)) v41 v59 c10_i32_41) (fun _ => True) P := by
  rw [k0_part3_eq_skeleton]
  exact .pure c trivial
/-- A part that only computes. -/
theorem part4 (v41 v89 : BitVec 32) {P : sProp (MT nD τ sig Unit (Elt F) ℕ UU ℕ)} :
    Triple c P (onBufs (k0_part4 (F := F)) v41 v89) (fun _ => True) P := by
  rw [k0_part4_eq_skeleton]
  exact .pure c trivial
/-- A part that only computes. -/
theorem part5 (v41 v117 : BitVec 32) (v118 : BitVec 1) (c2_i32_102 : BitVec 32) {P : sProp (MT nD τ sig Unit (Elt F) ℕ UU ℕ)} :
    Triple c P (onBufs (k0_part5 (F := F)) v41 v117 v118 c2_i32_102) (fun _ => True) P := by
  rw [k0_part5_eq_skeleton]
  exact .pure c trivial

/-- The first two signals. -/
theorem part6 (v2 v5 v8 v9 v41 v71 v101 v131 v147 : BitVec 32) (v148 : BitVec 1) :
    Triple c (Pre X K c 0) (onBufs (k0_part6 (F := F)) c v2 v5 v8 v9 v41 v71 v101 v131 v147 v148)
      (fun p => p.2.1 = SemArray.scalar (sig.barrier 0 rfl)) (Pre X K c 2) := by
  rw [k0_part6_eq_skeleton]
  exact step c (signal_bar X K c 0 rfl (dev1 c)) fun _ => step c (signal_bar X K c 1 rfl (dev2 c)) fun _ => .pure c rfl

/-- The third signal, the wait, the first copy. -/
theorem part7 (v5 v8 v9 v41 v161 : BitVec 32) (v162 : Sems sig S_) (v178 c1_i32_160 : BitVec 32) (h : v162 = SemArray.scalar (sig.barrier 0 rfl)) :
    Triple c (Pre X K c 2) (onBufs (k0_part7 (F := F)) c v5 v8 v9 v41 v161 v162 v178 c1_i32_160) (fun _ => True) (St X K c 1 3 0 0 0) := by
  subst h
  rw [k0_part7_eq_skeleton]
  exact step c (signal_bar X K c 2 rfl (dev3 c)) fun _ => step c (wait_bar X K c) fun _ =>
    step c (start_chunk X K c 0 (by decide) rfl (by decide) (by decide) (Fin.ext (dev4 c)) rfl rfl (off1 c 0) rfl) fun _ =>
    .pure c trivial

end Cert.AllReduce

end
-- ==== Proof.Ends.lean ====
/-
From whole buffers to the kernel's pieces, and back.

Before the kernel its buffers are cut into what `Pre` holds; after it the pieces of `St` at its last moment are joined to
whole buffers again, the result with all its rows stored.
-/
module

public import proofs.«01_k».proof.Proof.Start

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x1024.Idx → F .f32) (K : Dev nD × J → ℕ) (c : Dev nD)

/-! ## Products over the transfers -/

/-- The transfers on the ring. -/
def onRing : Finset (Fin 33) := Finset.univ.filter fun k => 3 ≤ k.val

/-- The ring transfers are those from 3 on. -/
theorem mem_onRing {k : Fin 33} : k ∈ onRing ↔ 3 ≤ k.val := by unfold onRing; simp

/-- A product over the transfers, the first three apart. -/
theorem bigSep_peel (Φ : Fin 33 → sProp 𝕄) : bigSep Finset.univ Φ = iprop(Φ 0 ∗ Φ 1 ∗ Φ 2 ∗ bigSep onRing Φ) := by
  rw [show (Finset.univ : Finset (Fin 33)) = insert 0 (insert 1 (insert 2 onRing)) by decide, BI.bigSep_insert (by decide),
    BI.bigSep_insert (by decide), BI.bigSep_insert (by decide)]
  rfl

/-- A product over two. -/
theorem bigSep_two (Φ : Fin 2 → sProp 𝕄) : bigSep Finset.univ Φ = iprop(Φ 0 ∗ Φ 1) :=
  bigSep_univ_eq_bigSepL [0, 1] (by decide) (by decide) Φ
/-- A product over the two sides. -/
theorem bigSep_bool (Φ : Bool → sProp 𝕄) : bigSep Finset.univ Φ = iprop(Φ false ∗ Φ true) :=
  bigSep_univ_eq_bigSepL [false, true] (by decide) (by decide) Φ
/-- Propositions that entail each other are equal. -/
theorem eq_of_entails {P Q : sProp 𝕄} (h : P ⊢ Q) (h' : Q ⊢ P) : P = Q := BI.equiv_iff.mp ⟨h, h'⟩
/-- Equivalent propositions are equal. -/
theorem eq_of_equiv {P Q : sProp 𝕄} (h : P ⊣⊢ Q) : P = Q := eq_of_entails h.1 h.2

/-- A product regrouped by the value of a function. -/
theorem bigSep_regroup {I T : Type} [DecidableEq I] [Fintype T] [DecidableEq T] (S : Finset I) (g : I → T) (Φ : I → sProp 𝕄) :
    bigSep S Φ = bigSep Finset.univ fun j => bigSep (S.filter fun k => g k = j) Φ := by
  rw [← BI.bigSep_biUnion_eq Finset.univ (fun j => S.filter fun k => g k = j) Φ]
  · congr 1
    ext k
    simp
  · exact fun j _ j' _ hne => Finset.disjoint_filter.mpr fun i _ hi hi' => hne (hi.symm.trans hi')

/-! ## The ring buffer -/

/-- Piece `k` of the ring buffer, summed, at share `q`. -/
abbrev ringPts (k : Fin 33) (q : PosShare TreeShare) : sProp 𝕄 :=
  ((c : Thread nD τ).loc cc0_scratch2) ↦[(pieceR (slot c k)).set]{q} ringC X c

/-- The pieces numbered 1 to 32 are the whole ring buffer. -/
theorem all_pieces : (insert 1 (insert 2 onRing)).biUnion (fun k => (pieceR (slot c k)).set) = Finset.univ := by
  refine Finset.eq_univ_of_forall fun i => Finset.mem_biUnion.mpr ?_
  obtain ⟨os, hos⟩ := pieces_cover i
  obtain ⟨k, hk, rfl⟩ := slot_surjective c os
  exact ⟨k, (by decide : ∀ k : Fin 33, 1 ≤ k.val → k ∈ insert 1 (insert 2 onRing)) k hk, hos⟩

/-- A whole ring buffer is its pieces. -/
theorem ring_pieces (f : S16x160x1024.Idx → F .f32) :
    (((c : Thread nD τ).loc cc0_scratch2) ↦{fullShare} f : sProp 𝕄)
      = iprop((((c : Thread nD τ).loc cc0_scratch2) ↦[(pieceR (slot c 1)).set]{fullShare} f)
        ∗ (((c : Thread nD τ).loc cc0_scratch2) ↦[(pieceR (slot c 2)).set]{fullShare} f)
        ∗ bigSep onRing fun k => ((c : Thread nD τ).loc cc0_scratch2) ↦[(pieceR (slot c k)).set]{fullShare} f) := by
  have h1 : ∀ k ∈ insert 1 (insert 2 onRing), 1 ≤ k.val := by decide
  have h := pointsTo_biUnion (Val := Elt F) (Ix := Unit) (Name := ℕ) (U := UU) (Lvl := ℕ) (ℓ := (c : Thread nD τ).loc cc0_scratch2) (q := fullShare) (f := f)
    (insert 1 (insert 2 onRing)) (fun k => (pieceR (slot c k)).set)
    (fun k hk k' hk' hne => pieces_disjoint fun e => hne (slot_injective c k k' (h1 k hk) (h1 k' hk') e))
  rw [BI.bigSep_insert (by decide), BI.bigSep_insert (by decide)] at h
  rw [all_pieces c] at h
  exact h

/-- The pieces 1 and 2 are the device's own two. -/
theorem own_at (s : Fin 2) (k : Fin 33) (hk : k.val = 1 + s.val) : slot c k = (pos c, s) := by
  have : ∀ (s : Fin 2) (k : Fin 33), k.val = 1 + s.val → ∀ c : Dev nD, slot c k = (pos c, s) := by decide +kernel
  exact this s k hk c

/-- The copies that read piece `j` of the ring. -/
def readers (j : Fin 33) : Finset (Fin 33) := onRing.filter fun k => prev k = j

/-- A ring transfer gives back a share of the piece that it sent on. -/
theorem sendPay_ring {k : Fin 33} (hk : 3 ≤ k.val) : sendPay X c k = ringPts X c (prev k) (shareOf k) := by
  unfold sendPay; rw [if_neg (by omega), if_neg (by omega)]

/-- Two half shares of a piece are the share. -/
theorem halves (k : Fin 33) (q : PosShare TreeShare) : iprop(ringPts X c k q.left ∗ ringPts X c k q.right) ⊢ ringPts X c k q :=
  (pointsTo_share (PosShare.mem_left_op_right q)).2

/-- One of the device's own pieces comes back from the two copies that read it. -/
theorem own_back (s : Fin 2) (j k k' : Fin 33) (hj : j.val = 1 + s.val) (hk : k.val = 3 + 2 * s.val) (hk' : k'.val = 4 + 2 * s.val)
    (hr : readers j = {k, k'}) : iprop(ownSt X c 33 s ∗ bigSep (readers j) (sendPay X c)) ⊢ ringPts X c j fullShare := by
  have hs : s.val < 2 := s.isLt
  have hp : prev k = j ∧ prev k' = j := by
    have hm := fun x hx => (Finset.mem_filter.mp (hr ▸ hx : x ∈ readers j)).2
    exact ⟨hm k (by simp), hm k' (by simp)⟩
  rw [hr, BI.bigSep_insert (by rw [Finset.mem_singleton]; exact fun e => by rw [e] at hk; omega), BI.bigSep_singleton,
    sendPay_ring X c (by omega), sendPay_ring X c (by omega), hp.1, hp.2]
  unfold ownSt
  rw [if_neg (by omega), show shareOf k = fullShare.left.left from if_pos (by omega),
    show shareOf k' = fullShare.left.right from (if_neg (by omega)).trans (if_pos (by omega)), ← own_at c s j hj]
  show iprop(ringPts X c j fullShare.right ∗ ringPts X c j fullShare.left.left ∗ ringPts X c j fullShare.left.right) ⊢ _
  iintro ⟨H1, H2, H3⟩
  iapply (halves X c j fullShare)
  isplitr [H1]
  · iapply (halves X c j fullShare.left)
    isplitl [H2] <;> iassumption
  · iexact H1

/-- A piece that is sent on is read by the transfer that does so. -/
theorem readers_next : ∀ j : Fin 33, 3 ≤ j.val → hasNext j = true → readers j = {next j} := by decide
/-- A piece that isn't sent on is read by none. -/
theorem readers_last : ∀ j : Fin 33, 3 ≤ j.val → hasNext j = false → readers j = ∅ := by decide

/-- A received piece comes back from the copy that read it, if any did. -/
theorem keep_back (j : Fin 33) (hj : 3 ≤ j.val) : iprop(keep X c j ∗ bigSep (readers j) (sendPay X c)) ⊢ ringPts X c j fullShare := by
  unfold keep
  cases hn : hasNext j with
  | true =>
    obtain ⟨hp, h7⟩ := prev_next j hn
    rw [if_pos rfl, readers_next j hj hn, BI.bigSep_singleton, sendPay_ring X c (by omega), hp,
      show shareOf (next j) = fullShare.left from (if_neg (by omega)).trans (if_neg (by omega))]
    iintro ⟨H1, H2⟩
    iapply (halves X c j fullShare)
    isplitl [H2] <;> iassumption
  | false =>
    rw [if_neg (by decide), readers_last j hj hn]
    unfold recvPay landPts
    rw [if_neg (by omega), if_neg (by omega)]
    iintro ⟨H, -⟩
    iexact H

/-- What the device kept of the received pieces and what their transfers gave back are those pieces in full. -/
theorem keeps_back : iprop(bigSep onRing (keep X c) ∗ bigSep onRing fun j => bigSep (readers j) (sendPay X c))
    ⊢ bigSep onRing fun j => ringPts X c j fullShare :=
  (Entails.of_eq (bigSep_sep' _ _ _).symm).trans (bigSep_mono fun j hj => keep_back X c j (mem_onRing.mp hj))

/-- After the kernel the whole ring buffer is the device's again. -/
theorem ring_back : iprop(ownSt X c 33 0 ∗ ownSt X c 33 1 ∗ bigSep onRing (keep X c) ∗ bigSep onRing (sendPay X c))
    ⊢ (((c : Thread nD τ).loc cc0_scratch2) ↦{fullShare} ringC X c : sProp 𝕄) := by
  rw [ring_pieces c (ringC X c),
    show bigSep onRing (sendPay X c) = bigSep Finset.univ fun j => bigSep (readers j) (sendPay X c) from bigSep_regroup onRing prev _, bigSep_peel]
  iintro ⟨H0, H1, Hk, -, Hs1, Hs2, Hs⟩
  isplitl [H0 Hs1]
  · iapply (own_back X c 0 1 3 4 rfl rfl rfl (by decide))
    isplitl [H0] <;> iassumption
  isplitl [H1 Hs2]
  · iapply (own_back X c 1 2 5 6 rfl rfl rfl (by decide))
    isplitl [H1] <;> iassumption
  iapply (keeps_back X c)
  isplitl [Hk] <;> iassumption

/-! ## The input -/

/-- The input is what the device keeps of it and what its copies to the partner read. -/
theorem x_parts : (((c : Thread nD τ).loc cc0_stg0_0) ↦{fullShare} X c : sProp 𝕄)
    = iprop(xSt X c ∗ sendPay X c 0 ∗ sendPay X c 1 ∗ sendPay X c 2) := by
  have h0 : sendPay X c 0 = ((c : Thread nD τ).loc cc0_stg0_0) ↦[(rowsR (pos c, 0)).set]{fullShare.left} X c := rfl
  have h1 : sendPay X c 1 = ((c : Thread nD τ).loc cc0_stg0_0) ↦[(rowsR (pos c, 1)).set]{fullShare.left} X c := rfl
  have h2 : sendPay X c 2 = ((c : Thread nD τ).loc cc0_stg0_0) ↦[directR.set]{fullShare.left} X c := rfl
  have s1 : (rowsR (pos c, 1)).set ⊆ Finset.univ \ (rowsR (pos c, 0)).set := fun i hi => by
    rw [Finset.mem_sdiff]
    refine ⟨Finset.mem_univ i, fun hi' => ?_⟩
    rw [mem_rows] at hi hi'
    have e0 : ((0 : Fin 2)).val = 0 := rfl
    have e1 : ((1 : Fin 2)).val = 1 := rfl
    dsimp only at hi hi'
    omega
  have s2 : directR.set ⊆ (Finset.univ \ (rowsR (pos c, 0)).set) \ (rowsR (pos c, 1)).set := fun i hi => by
    rw [mem_direct] at hi
    rw [Finset.mem_sdiff, Finset.mem_sdiff]
    refine ⟨⟨Finset.mem_univ i, fun hi' => ?_⟩, fun hi' => ?_⟩ <;> (rw [mem_rows] at hi'; omega)
  have e := fun I S (h : I ⊆ S) => eq_of_equiv (pointsTo_split_subset (Val := Elt F) (Ix := Unit) (Name := ℕ) (U := UU) (Lvl := ℕ)
    (ℓ := (c : Thread nD τ).loc cc0_stg0_0) (q := fullShare.left) (f := X c) (I := I) (S := S) h)
  have es := eq_of_equiv (pointsTo_share (Val := Elt F) (Ix := Unit) (Name := ℕ) (U := UU) (Lvl := ℕ)
    (ℓ := (c : Thread nD τ).loc cc0_stg0_0) (f := X c) (I := Finset.univ) (PosShare.mem_left_op_right fullShare))
  have e3 := (es.trans (congrArg (fun P => iprop(P ∗ _)) (e _ _ (Finset.subset_univ (rowsR (pos c, 0)).set))))
  rw [e _ _ s1, e _ _ s2] at e3
  rw [h0, h1, h2]
  unfold xSt restRows
  refine e3.trans (eq_of_entails ?_ ?_)
  · iintro ⟨⟨H0, H1, H2, Hr⟩, HR⟩
    isplitl [HR Hr]
    · isplitl [HR] <;> iassumption
    isplitl [H0]; · iexact H0
    isplitl [H1] <;> iassumption
  · iintro ⟨⟨HR, Hr⟩, H0, H1, H2⟩
    isplitr [HR]
    · isplitl [H0]; · iexact H0
      isplitl [H1]; · iexact H1
      isplitl [H2] <;> iassumption
    · iexact HR

/-! ## The chunk and the direct buffers -/

/-- A whole chunk buffer is its two halves. -/
theorem chunk_halves (f : S160x1024.Idx → F .f32) : (((c : Thread nD τ).loc cc0_scratch1) ↦{fullShare} f : sProp 𝕄)
    = iprop((((c : Thread nD τ).loc cc0_scratch1) ↦[(halfR 0).set]{fullShare} f) ∗ (((c : Thread nD τ).loc cc0_scratch1) ↦[(halfR 1).set]{fullShare} f)) := by
  have hu : (halfR 0).set ∪ (halfR 1).set = Finset.univ :=
    Finset.eq_univ_of_forall fun i => Finset.mem_union.mpr (halves_cover i)
  have h := eq_of_equiv (pointsTo_union (Val := Elt F) (Ix := Unit) (Name := ℕ) (U := UU) (Lvl := ℕ) (ℓ := (c : Thread nD τ).loc cc0_scratch1) (q := fullShare) (f := f) halves_disjoint)
  rw [hu] at h
  exact h

/-- What a device keeps of landing 0: the first half of the chunk buffer. -/
theorem keep_0 : keep X c 0 = ((c : Thread nD τ).loc cc0_scratch1) ↦[(halfR 0).set]{fullShare} chunkC X c := rfl
/-- Of landing 1: its second half. -/
theorem keep_1 : keep X c 1 = ((c : Thread nD τ).loc cc0_scratch1) ↦[(halfR 1).set]{fullShare} chunkC X c := rfl
/-- Of landing 2: the direct buffer. -/
theorem keep_2 : keep X c 2 = ((c : Thread nD τ).loc cc0_scratch0) ↦{fullShare} directC X c := rfl

/-! ## All the buffers received into -/

/-- The three buffers received into, at any contents. -/
def scratch : sProp 𝕄 :=
  iprop((∃ f : S1536x1024.Idx → F .f32, ((c : Thread nD τ).loc cc0_scratch0) ↦{fullShare} f)
    ∗ (∃ f : S160x1024.Idx → F .f32, ((c : Thread nD τ).loc cc0_scratch1) ↦{fullShare} f)
    ∗ (∃ f : S16x160x1024.Idx → F .f32, ((c : Thread nD τ).loc cc0_scratch2) ↦{fullShare} f))

/-- A landing buffer with any contents is one with unknown contents. -/
theorem junk_of {k : Fin 33} {fk : S160x1024.Idx → F .f32} {fd : S1536x1024.Idx → F .f32} {fg : S16x160x1024.Idx → F .f32} {P : sProp 𝕄}
    (h : landPts c k fk fd fg = P) : P ⊢ junk (F := F) c k := by
  subst h
  unfold junk
  iintro H
  iexists fk; iexists fd; iexists fg
  iexact H

/-- The pieces of a ring buffer with any contents are landing buffers with unknown contents. -/
theorem junk_ring (f : S16x160x1024.Idx → F .f32) (fk : S160x1024.Idx → F .f32) (fd : S1536x1024.Idx → F .f32) :
    (bigSep onRing fun k => ((c : Thread nD τ).loc cc0_scratch2) ↦[(pieceR (slot c k)).set]{fullShare} f : sProp 𝕄) ⊢ bigSep onRing (junk (F := F) c) :=
  bigSep_mono fun k hk => junk_of c (fk := fk) (fd := fd) (fg := f) (by
    have h3 := mem_onRing.mp hk
    unfold landPts
    rw [if_neg (by omega), if_neg (by omega)])

/-- They are the landing buffers of all the transfers, and the device's own two pieces of the ring. -/
theorem scratch_cut : scratch (F := F) c ⊢ iprop(bigSep Finset.univ (ownSt X c 3) ∗ bigSep Finset.univ (junk (F := F) c)) := by
  unfold scratch
  rw [bigSep_peel, bigSep_two]
  iintro ⟨⟨%fd, Hd⟩, ⟨%fk, Hk⟩, ⟨%fg, Hg⟩⟩
  ihave Hk := (Entails.of_eq (chunk_halves c fk)) $$ Hk
  icases Hk with ⟨Hk0, Hk1⟩
  ihave Hg := (Entails.of_eq (ring_pieces c fg)) $$ Hg
  icases Hg with ⟨Hg1, Hg2, Hg⟩
  isplitl [Hg1 Hg2]
  · unfold ownSt
    rw [if_pos (by decide), if_pos (by decide), own_at c 0 1 rfl, own_at c 1 2 rfl]
    isplitl [Hg1]
    · iexists fg; iexact Hg1
    · iexists fg; iexact Hg2
  isplitl [Hk0]
  · iapply (junk_of c (show landPts c 0 fk fd fg = (((c : Thread nD τ).loc cc0_scratch1) ↦[(halfR 0).set]{fullShare} fk) from rfl)); iexact Hk0
  isplitl [Hk1]
  · iapply (junk_of c (show landPts c 1 fk fd fg = (((c : Thread nD τ).loc cc0_scratch1) ↦[(halfR 1).set]{fullShare} fk) from rfl)); iexact Hk1
  isplitl [Hd]
  · iapply (junk_of c (show landPts c 2 fk fd fg = (((c : Thread nD τ).loc cc0_scratch0) ↦[Finset.univ]{fullShare} fd) from rfl)); iexact Hd
  iapply (junk_ring c fg fk fd)
  iexact Hg

/-- What a neighbour sends from is what the device hands it with its signal. -/
theorem junk_deal : bigSep Finset.univ (junk (F := F) c) = bigSep Finset.univ fun d : Fin 3 => barPay (F := F) (nb c d) (opp d) := by
  rw [bigSep_regroup Finset.univ via (junk (F := F) c), BI.bigSep_univ_equiv (⟨opp, opp, opp_opp, opp_opp⟩ : Fin 3 ≃ Fin 3)]
  refine bigSep_congr fun d _ => ?_
  unfold barPay
  refine bigSep_congr fun k hk => ?_
  have hv : via k = opp d := (Finset.mem_filter.mp hk).2
  unfold dst
  rw [hv, nb_opp]

/-- After the kernel the three buffers are whole again. -/
theorem scratch_join : iprop(bigSep Finset.univ (ownSt X c 33) ∗ bigSep Finset.univ (keep X c) ∗ bigSep onRing (sendPay X c)) ⊢ scratch (F := F) c := by
  unfold scratch
  rw [bigSep_peel (keep X c), bigSep_two,
    keep_0, keep_1, keep_2]
  iintro ⟨⟨Ho0, Ho1⟩, ⟨Hk0, Hk1, Hk2, Hk⟩, Hs⟩
  isplitl [Hk2]
  · iexists directC X c; iexact Hk2
  isplitl [Hk0 Hk1]
  · iexists chunkC X c
    iapply (Entails.of_eq (chunk_halves c (chunkC X c)).symm)
    isplitl [Hk0] <;> iassumption
  · iexists ringC X c
    iapply (ring_back X c)
    isplitl [Ho0]; · iexact Ho0
    isplitl [Ho1]; · iexact Ho1
    isplitl [Hk] <;> iassumption

/-! ## The result -/

/-- Before the first store nothing is asked of the result. -/
theorem stored_none (f : S4096x1024.Idx → F .f32) : Stored X c 0 f :=
  ⟨fun j h1 h0 => absurd h0 (by omega), fun h => absurd h (by decide)⟩

/-- After the last store the result is `outC`. -/
theorem stored_all (f : S4096x1024.Idx → F .f32) (h : Stored X c 33 f) : f = outC X c := by
  funext i
  rcases rows_cover i with hi | ⟨os, hi⟩
  · exact h.2 (le_refl _) i hi
  · obtain ⟨k, hk, rfl⟩ := slot_surjective c os
    exact h.1 k hk (by have := k.isLt; omega) i hi

/-! ## The semaphores -/

/-- All the kernel's semaphores of a device, at zero. -/
def zeros : sProp 𝕄 := bigSep Finset.univ fun j : J => semVal (kcell (c, j)) 0

/-- A product over a device's cells: its barrier, its senders' cells and its receivers' cells. -/
theorem bigSep_J (Φ : J → sProp 𝕄) : bigSep Finset.univ Φ
    = iprop(Φ none ∗ (bigSep Finset.univ fun k => Φ (some (k, false))) ∗ bigSep Finset.univ fun k => Φ (some (k, true))) := by
  rw [bigSep_pick none Φ]
  have h : (Finset.univ.erase none : Finset J) = Finset.univ.map ⟨some, Option.some_injective _⟩ := by decide
  rw [h, BI.bigSep_map, BI.bigSep_univ_prod]
  refine congrArg (fun P => iprop(Φ none ∗ P)) ((bigSep_congr fun k _ => bigSep_bool _).trans (bigSep_sep' _ _ _))

/-- All a device's semaphores at zero, kind by kind. -/
theorem zeros_eq : zeros (F := F) c = iprop(semVal (barCell c) 0 ∗ (bigSep Finset.univ fun k => semVal (sendCell c k) 0)
    ∗ bigSep Finset.univ fun k => semVal (recvCell c k) 0) := bigSep_J _

/-! ## The end -/

/-- When all transfers are over, the senders' cells are at zero and the sources are back. -/
theorem sends_over : bigSep Finset.univ (sendSt X c 33 33 33)
    = iprop((bigSep Finset.univ fun k => semVal (sendCell c k) 0) ∗ bigSep Finset.univ (sendPay X c)) := by
  rw [← bigSep_sep']
  exact bigSep_congr fun k _ => sendSt_over X c 33 k.isLt k.isLt
/-- When all landings are over, the receivers' cells are at zero and what landed is there. -/
theorem recvs_over : bigSep Finset.univ (recvSt X c 33)
    = iprop((bigSep Finset.univ fun k => semVal (recvCell c k) 0) ∗ bigSep Finset.univ (keep X c)) := by
  rw [← bigSep_sep']
  exact bigSep_congr fun k _ => recvSt_landed X c ((by decide : ∀ k : Fin 33, rank k < 33) k)

/-- After the kernel: the input as it was, the result in its buffer, the other buffers whole, every semaphore at zero. -/
theorem finish : St X K c 33 33 33 33 33 ⊢ iprop((((c : Thread nD τ).loc cc0_stg0_0) ↦{fullShare} X c)
    ∗ (((c : Thread nD τ).loc cc0_stg1_0) ↦{fullShare} outC X c) ∗ scratch (F := F) c ∗ owesSt (F := F) c 0 ∗ zeros (F := F) c) := by
  unfold St outSt
  rw [sends_over, recvs_over, owe_done, x_parts, zeros_eq, bigSep_peel (sendPay X c)]
  iintro ⟨-, ⟨Hzs, Hs0, Hs1, Hs2, Hs⟩, ⟨Hzr, Hk⟩, Hown, Hx, ⟨%f, %hf, Hout⟩, Ho, Hz⟩
  obtain rfl := stored_all X c f hf
  isplitl [Hx Hs0 Hs1 Hs2]
  · isplitl [Hx]; · iexact Hx
    isplitl [Hs0]; · iexact Hs0
    isplitl [Hs1] <;> iassumption
  isplitl [Hout]; · iexact Hout
  isplitl [Hown Hk Hs]
  · iapply (scratch_join X c)
    isplitl [Hown]; · iexact Hown
    isplitl [Hk] <;> iassumption
  isplitl [Ho]; · iexact Ho
  isplitl [Hz]; · iexact Hz
  isplitl [Hzs] <;> iassumption

/-! ## The start -/

/-- What a device holds of the schedule before the kernel: its positions, the tokens of the duties it pays, and the
    credits its neighbours owe it. -/
def Tokens : sProp 𝕄 :=
  iprop((bigSep Finset.univ fun j : J => atPos ER (kcell (c, j)) 0 ∅ 0)
    ∗ (bigSep Finset.univ fun k : Fin 33 => iprop(dutyTok ER (sendCell c k) 0 0 ∗ dutyTok ER (recvCell (dst c k) k) 0 0))
    ∗ (bigSep Finset.univ fun d : Fin 3 => dutyTok ER (barCell (nb c d)) 0 (opp d))
    ∗ cred (tallyAt (barCell c) () 3) ∗ (bigSep Finset.univ fun k : Fin 33 => cred (tallyAt (recvCell c k) () (N k))))

/-- The source of a transfer to the partner. -/
def source (k : Fin 33) : sProp 𝕄 := if k.val < 3 then sendPay X c k else iprop(emp)

/-- The sources of the first three transfers, as the state lists them. -/
theorem sources : iprop(sendPay X c 0 ∗ sendPay X c 1 ∗ sendPay X c 2) ⊢ bigSep Finset.univ (source X c) := by
  rw [bigSep_peel, bigSep_congr (s := onRing) (Ψ := fun _ => iprop(emp))
    (fun k hk => show source X c k = _ from if_neg (by have := mem_onRing.mp hk; omega))]
  rw [show source X c 0 = sendPay X c 0 from rfl, show source X c 1 = sendPay X c 1 from rfl, show source X c 2 = sendPay X c 2 from rfl]
  iintro ⟨H0, H1, H2⟩
  isplitl [H0]; · iexact H0
  isplitl [H1]; · iexact H1
  isplitl [H2]; · iexact H2
  iapply (Entails.of_eq (BI.bigSep_emp_const onRing).symm)
  iempintro

/-- The sender's side of a transfer before the kernel. -/
theorem send_start (k : Fin 33) : iprop(atPos ER (sendCell c k) 0 ∅ 0
      ∗ (dutyTok ER (sendCell c k) 0 0 ∗ dutyTok ER (recvCell (dst c k) k) 0 0) ∗ source X c k) ⊢ sendSt₀ X c k := by
  unfold sendSt₀ source
  iintro ⟨Ha, ⟨H1, H2⟩, Hs⟩
  isplitl [H1]; · iexact H1
  isplitl [H2]; · iexact H2
  isplitl [Ha] <;> iassumption

/-- All senders' sides before the kernel. -/
theorem sends_start : iprop((bigSep Finset.univ fun k => atPos ER (sendCell c k) 0 ∅ 0)
      ∗ (bigSep Finset.univ fun k : Fin 33 => iprop(dutyTok ER (sendCell c k) 0 0 ∗ dutyTok ER (recvCell (dst c k) k) 0 0))
      ∗ bigSep Finset.univ (source X c))
    ⊢ bigSep Finset.univ (sendSt₀ X c) :=
  (Entails.of_eq (by rw [← bigSep_sep', ← bigSep_sep'])).trans (bigSep_mono fun k _ => send_start X c k)

/-- All receivers' sides before the kernel. -/
theorem recvs_start : iprop((bigSep Finset.univ fun k => atPos ER (recvCell c k) 0 ∅ 0)
      ∗ (bigSep Finset.univ fun k : Fin 33 => cred (tallyAt (recvCell c k) () (N k))))
    ⊢ bigSep Finset.univ (recvSt X c 0) := by
  rw [bigSep_congr fun k _ => recvSt_pending X c (Nat.zero_le (rank k)), bigSep_sep']
  iintro ⟨Ha, Hc⟩
  isplitl [Hc] <;> iassumption

/-- What the device's three signals take with them. -/
theorem signals_start : iprop((bigSep Finset.univ fun d : Fin 3 => dutyTok ER (barCell (nb c d)) 0 (opp d)) ∗ bigSep Finset.univ (junk (F := F) c))
    ⊢ bigSep Finset.univ (sigSt (F := F) c 0) := by
  rw [junk_deal, ← bigSep_sep', bigSep_congr fun d _ => show sigSt (F := F) c 0 d = _ from if_pos (Nat.zero_le _)]

/-- Before the kernel: from whole buffers, the facts that stay and the device's part of the schedule, the state the
    kernel starts from. -/
theorem begin_body (f : S4096x1024.Idx → F .f32) :
    iprop(Ctx X K ∗ Tokens (F := F) c ∗ scratch (F := F) c ∗ owesSt (F := F) c (oweB c 0)
      ∗ (((c : Thread nD τ).loc cc0_stg0_0) ↦{fullShare} X c) ∗ (((c : Thread nD τ).loc cc0_stg1_0) ↦{fullShare} f))
    ⊢ Pre X K c 0 := by
  unfold Tokens Pre
  rw [show (bigSep Finset.univ fun j : J => atPos ER (kcell (c, j)) 0 ∅ 0 : sProp 𝕄) = iprop(atPos ER (barCell c) 0 ∅ 0
    ∗ (bigSep Finset.univ fun k => atPos ER (sendCell c k) 0 ∅ 0) ∗ bigSep Finset.univ fun k => atPos ER (recvCell c k) 0 ∅ 0) from bigSep_J _, x_parts]
  iintro ⟨HC, ⟨⟨Hb, Has, Har⟩, Ht, Htb, Hcb, Hcr⟩, Hscr, Ho, ⟨Hx, Hs0, Hs1, Hs2⟩, Hout⟩
  ihave Hscr := (scratch_cut X c) $$ Hscr
  icases Hscr with ⟨Hown, Hj⟩
  isplitl [HC]; · iexact HC
  isplitl [Has Ht Hs0 Hs1 Hs2]
  · iapply (sends_start X c)
    isplitl [Has]; · iexact Has
    isplitl [Ht]; · iexact Ht
    iapply (sources X c)
    isplitl [Hs0]; · iexact Hs0
    isplitl [Hs1] <;> iassumption
  isplitl [Har Hcr]
  · iapply (recvs_start X c)
    isplitl [Har] <;> iassumption
  isplitl [Hown]; · iexact Hown
  isplitl [Hx]; · iexact Hx
  isplitl [Hout]
  · unfold outSt
    iexists f
    isplitr; · ipureintro; exact stored_none X c f
    iexact Hout
  isplitl [Ho]; · iexact Ho
  isplitl [Htb Hj]
  · iapply (signals_start (F := F) c)
    isplitl [Htb] <;> iassumption
  isplitl [Hcb] <;> iassumption

end Cert.AllReduce

end
-- ==== Proof.Deal.lean ====
/-
The schedule at launch, dealt to the devices.

The launch makes, for each device, the state of its cells, its positions in them and the tokens of their duties. Each
token goes to the device that pays the duty; each device gets the credits of what the others owe its cells.
-/
module

public import proofs.«01_k».proof.Proof.Ends

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x1024.Idx → F .f32)

/-! ## The cells and the tokens -/

/-- The semaphores of the kernel's own, which are all but the barrier. -/
def osem (kb : Fin 33 × Bool) : SemLoc sig := csem (some kb)

/-- A duty of a device's cells: one of its barrier's three, or the one duty of a side of a transfer. -/
abbrev Duty : Type := Fin 3 ⊕ (Fin 33 × Bool)

/-- The cell and the number of a duty. -/
def dutyAt : Duty → J × Fin 3
  | .inl d => (none, d)
  | .inr kb => (some kb, 0)

/-- Different duties have different places. -/
theorem dutyAt_injective : Function.Injective dutyAt
  | .inl _, .inl _, h => congrArg Sum.inl (congrArg Prod.snd h)
  | .inl _, .inr _, h => absurd (congrArg Prod.fst h) (by simp [dutyAt])
  | .inr _, .inl _, h => absurd (congrArg Prod.fst h) (by simp [dutyAt])
  | .inr _, .inr _, h => congrArg Sum.inr (Option.some.inj (congrArg Prod.fst h))

/-- The token of a device's duty. -/
def tokenAt (x : Dev nD × Duty) : GSem nD τ sig × ℕ × Fin 3 := (kcell (x.1, (dutyAt x.2).1), 0, (dutyAt x.2).2)

/-- Different duties have different tokens. -/
theorem tokenAt_injective : Function.Injective tokenAt := fun x y h => by
  have h1 := kcell_injective (congrArg Prod.fst h)
  have h2 : dutyAt x.2 = dutyAt y.2 := Prod.ext (congrArg Prod.snd h1) (congrArg (fun t => t.2.2) h)
  exact Prod.ext (congrArg (fun t : Dev nD × J => t.1) h1) (dutyAt_injective h2)

/-- All cells of all devices. -/
def allCells : Finset (GSem nD τ sig) := Finset.univ.map ⟨kcell, kcell_injective⟩
/-- All tokens of all devices. -/
def allTokens : Finset (GSem nD τ sig × ℕ × Fin 3) := Finset.univ.map ⟨tokenAt, tokenAt_injective⟩

/-- The launch's element: the staging cells' part and the schedule's. -/
def u₀ : UU := (initOf (Pipeline.cells cfgs cellOf_inj) (Pipeline.launchToks cfgs cellOf_inj), initOf allCells allTokens)

/-! ## What each device is dealt at first -/

/-- The tokens of the duties of device `c`'s own cells. -/
def ownTokens (c : Dev nD) : sProp 𝕄 :=
  iprop((bigSep Finset.univ fun d : Fin 3 => dutyTok ER (barCell c) 0 d)
    ∗ (bigSep Finset.univ fun k : Fin 33 => dutyTok ER (sendCell c k) 0 0) ∗ (bigSep Finset.univ fun k : Fin 33 => dutyTok ER (recvCell c k) 0 0))

/-- What the launch makes for a device. -/
def Dealt (c : Dev nD) : sProp 𝕄 :=
  iprop((bigSep Finset.univ fun j : J => roundState ER (Rd X) (kcell (c, j)) 0)
    ∗ (bigSep Finset.univ fun j : J => atPos ER (kcell (c, j)) 0 ∅ 0) ∗ (bigSep Finset.univ fun j : J => reached ER (kcell (c, j)) 0)
    ∗ ownTokens (F := F) c)

/-- A product over all cells is one over the devices of products over a device's cells. -/
theorem over_cells (Φ : GSem nD τ sig → sProp 𝕄) :
    bigSep allCells Φ = bigSep Finset.univ fun c : Dev nD => bigSep Finset.univ fun j : J => Φ (kcell (c, j)) := by
  unfold allCells
  rw [BI.bigSep_map, BI.bigSep_univ_prod]
  rfl

/-- All tokens are the devices' own tokens. -/
theorem over_tokens : bigSep allTokens (fun x => (dutyTok ER x.1 x.2.1 x.2.2 : sProp 𝕄)) = bigSep Finset.univ (ownTokens (F := F)) := by
  unfold allTokens
  rw [BI.bigSep_map, BI.bigSep_univ_prod]
  refine bigSep_congr fun c _ => ?_
  rw [BI.bigSep_univ_sum, BI.bigSep_univ_prod]
  unfold ownTokens
  refine congrArg (fun P => iprop((bigSep Finset.univ fun d : Fin 3 => dutyTok ER (barCell c) 0 d) ∗ P)) ?_
  exact (bigSep_congr fun k _ => bigSep_bool _).trans (bigSep_sep' _ _ _)

/-- The schedule's part of the launch's element gives each device its part. -/
theorem deal : BI.own (ER (initOf allCells allTokens)) ⊢ (|==> bigSep Finset.univ (Dealt X) : sProp 𝕄) := by
  iintro H
  imod (Rounds.fund ER (Rd X) allCells allTokens) $$ H with ⟨Hs, Hr, Ha, Ht⟩
  imodintro
  ihave Hs := (Entails.of_eq (over_cells fun g => roundState ER (Rd X) g 0)) $$ Hs
  ihave Ha := (Entails.of_eq (over_cells (F := F) fun g => atPos ER g 0 ∅ 0)) $$ Ha
  ihave Hr := (Entails.of_eq (over_cells (F := F) fun g => reached ER g 0)) $$ Hr
  ihave Ht := (Entails.of_eq (over_tokens (F := F))) $$ Ht
  unfold Dealt
  simp only [bigSep_sep']
  isplitl [Hs]; · iexact Hs
  isplitl [Ha]; · iexact Ha
  isplitl [Hr] <;> iassumption

/-! ## Every cell's invariant -/

/-- The one semaphore that outlives the kernel is the barrier. -/
theorem barrier_alone (c : Dev nD) : (unscopedSems0 c : sProp 𝕄) = semVal (barCell c) 0 := by
  unfold unscopedSems0
  rw [bigSep_eq_bigSepL_of_eq [SemLoc.reg barS] (by decide) (by decide)]
  rfl

/-- The barrier and the kernel's own semaphores are the semaphores of all cells. -/
theorem zeros_split (c : Dev nD) : iprop(unscopedSems0 c ∗ Pipeline.ownSems0 (Ix := Unit) (Name := ℕ) (U := UU) (Lvl := ℕ) (Val := Elt F) (τ := τ) osem c)
    = zeros (F := F) c := by
  rw [barrier_alone, zeros_eq]
  unfold Pipeline.ownSems0
  rw [BI.bigSep_univ_prod]
  refine congrArg (fun P => iprop(semVal (barCell c) 0 ∗ P)) ?_
  exact (bigSep_congr fun k _ => bigSep_bool _).trans (bigSep_sep' _ _ _)

/-- A device's semaphores at zero, with the states of their cells, become invariants. -/
theorem allocate (c : Dev nD) : iprop(zeros (F := F) c ∗ bigSep Finset.univ fun j : J => roundState ER (Rd X) (kcell (c, j)) 0)
    ⊢ (|={Set.univ}=> bigSep Finset.univ fun j : J => iprop(∃ κ : ℕ, cellInv ER (Rd X) κ (kcell (c, j))) : sProp 𝕄) := by
  unfold zeros
  rw [← bigSep_sep']
  exact (bigSep_mono fun j _ => (Rounds.body_intro ER (Rd X) (kcell (c, j))).trans inv_alloc).trans (bigSep_fupd _ _)

/-- A device's part once the invariants are made. -/
def Made (c : Dev nD) : sProp 𝕄 :=
  iprop((bigSep Finset.univ fun j : J => iprop(∃ κ : ℕ, cellInv ER (Rd X) κ (kcell (c, j))))
    ∗ (bigSep Finset.univ fun j : J => reached ER (kcell (c, j)) 0)
    ∗ (bigSep Finset.univ fun j : J => atPos ER (kcell (c, j)) 0 ∅ 0) ∗ ownTokens (F := F) c)

/-- The launch makes each device's part. -/
theorem make (c : Dev nD) :
    iprop(Pipeline.ownSems0 (Ix := Unit) (Name := ℕ) (U := UU) (Lvl := ℕ) (Val := Elt F) (τ := τ) osem c ∗ unscopedSems0 c ∗ Dealt X c)
      ⊢ |={Set.univ}=> Made X c := by
  unfold Dealt
  iintro ⟨Ho, Hu, Hs, Ha, Hr, Ht⟩
  imod (allocate X c) $$ [Ho Hu Hs] with Hi
  · isplitl [Ho Hu]
    · iapply (Entails.of_eq (zeros_split (F := F) c))
      isplitl [Hu] <;> iassumption
    iexact Hs
  imodintro
  unfold Made
  isplitl [Hi]; · iexact Hi
  isplitl [Hr]; · iexact Hr
  isplitl [Ha] <;> iassumption

/-! ## The tokens to their payers -/

/-- The tokens of the duties device `c` pays. -/
def payTokens (c : Dev nD) : sProp 𝕄 :=
  iprop((bigSep Finset.univ fun k : Fin 33 => iprop(dutyTok ER (sendCell c k) 0 0 ∗ dutyTok ER (recvCell (dst c k) k) 0 0))
    ∗ (bigSep Finset.univ fun d : Fin 3 => dutyTok ER (barCell (nb c d)) 0 (opp d)))

/-- A product over devices and indices may be taken in the other order. -/
theorem swap_over {I : Type} [Fintype I] (Φ : Dev nD → I → sProp 𝕄) :
    (bigSep Finset.univ fun c : Dev nD => bigSep Finset.univ fun i : I => Φ c i) = bigSep Finset.univ fun i : I => bigSep Finset.univ fun c : Dev nD => Φ c i :=
  (BI.bigSep_univ_prod (fun x : Dev nD × I => Φ x.1 x.2)).symm.trans
    ((BI.bigSep_univ_equiv (Equiv.prodComm I (Dev nD)) _).trans (BI.bigSep_univ_prod _))

/-- The tokens of the receivers' cells, dealt to the senders. -/
theorem to_senders : (bigSep Finset.univ fun c : Dev nD => bigSep Finset.univ fun k : Fin 33 => (dutyTok ER (recvCell c k) 0 0 : sProp 𝕄))
    = bigSep Finset.univ fun c : Dev nD => bigSep Finset.univ fun k : Fin 33 => dutyTok ER (recvCell (dst c k) k) 0 0 := by
  rw [swap_over, swap_over fun (c : Dev nD) (k : Fin 33) => (dutyTok ER (recvCell (dst c k) k) 0 0 : sProp 𝕄)]
  exact bigSep_congr fun k _ => BI.bigSep_univ_equiv (nbEquiv (via k)) fun c => (dutyTok ER (recvCell c k) 0 0 : sProp 𝕄)

/-- The tokens of the barriers, dealt to the neighbours that signal them. -/
theorem to_signallers : (bigSep Finset.univ fun c : Dev nD => bigSep Finset.univ fun d : Fin 3 => (dutyTok ER (barCell c) 0 d : sProp 𝕄))
    = bigSep Finset.univ fun c : Dev nD => bigSep Finset.univ fun d : Fin 3 => dutyTok ER (barCell (nb c d)) 0 (opp d) := by
  rw [swap_over, swap_over fun (c : Dev nD) (d : Fin 3) => (dutyTok ER (barCell (nb c d)) 0 (opp d) : sProp 𝕄),
    BI.bigSep_univ_equiv (⟨opp, opp, opp_opp, opp_opp⟩ : Fin 3 ≃ Fin 3)]
  exact bigSep_congr fun d _ => BI.bigSep_univ_equiv (nbEquiv d) fun c => (dutyTok ER (barCell c) 0 (opp d) : sProp 𝕄)

/-- All tokens, dealt to the devices that pay them. -/
theorem to_payers : bigSep Finset.univ (ownTokens (F := F)) ⊢ bigSep Finset.univ (payTokens (F := F)) := by
  have e : bigSep Finset.univ (payTokens (F := F)) = iprop(((bigSep Finset.univ fun c : Dev nD => bigSep Finset.univ fun k : Fin 33 => dutyTok ER (sendCell c k) 0 0)
      ∗ (bigSep Finset.univ fun c : Dev nD => bigSep Finset.univ fun k : Fin 33 => dutyTok ER (recvCell (dst c k) k) 0 0))
      ∗ (bigSep Finset.univ fun c : Dev nD => bigSep Finset.univ fun d : Fin 3 => dutyTok ER (barCell (nb c d)) 0 (opp d))) := by
    unfold payTokens
    simp only [bigSep_sep']
  rw [e, ← to_senders, ← to_signallers]
  unfold ownTokens
  simp only [bigSep_sep']
  iintro ⟨Hb, Hs, Hr⟩
  isplitl [Hs Hr]
  · isplitl [Hs] <;> iassumption
  · iexact Hb

/-! ## All devices at once -/

/-- What a device has before its kernel starts, but for the levels and the credits. -/
def Given (c : Dev nD) : sProp 𝕄 :=
  iprop((∃ K : Dev nD × J → ℕ, (bigSep Finset.univ fun cj : Dev nD × J => cellInv ER (Rd X) (K cj) (kcell cj))
      ∗ (bigSep Finset.univ fun cj : Dev nD × J => reached ER (kcell cj) 0))
    ∗ (bigSep Finset.univ fun j : J => atPos ER (kcell (c, j)) 0 ∅ 0) ∗ payTokens (F := F) c)

/-- A lasting fact goes to every device. -/
theorem share_facts {R : sProp 𝕄} [BI.Persistent R] (Φ : Dev nD → sProp 𝕄) :
    iprop(R ∗ bigSep Finset.univ Φ) ⊢ bigSep Finset.univ fun c => iprop(R ∗ Φ c) :=
  (sep_mono_left (BI.bigSep_of_persistent Finset.univ R)).trans (Entails.of_eq (bigSep_sep' _ _ _).symm)

/-- What was made for the devices, gathered and dealt again, each device then having what it starts with. -/
theorem gather : bigSep Finset.univ (Made X) ⊢ bigSep Finset.univ (Given X) := by
  have e : bigSep Finset.univ (Made X) = iprop((bigSep Finset.univ fun cj : Dev nD × J => iprop(∃ κ : ℕ, cellInv ER (Rd X) κ (kcell cj)))
      ∗ (bigSep Finset.univ fun cj : Dev nD × J => reached ER (kcell cj) 0)
      ∗ (bigSep Finset.univ fun c : Dev nD => bigSep Finset.univ fun j : J => atPos ER (kcell (c, j)) 0 ∅ 0) ∗ bigSep Finset.univ (ownTokens (F := F))) := by
    unfold Made
    simp only [bigSep_sep', BI.bigSep_univ_prod]
  rw [e]
  iintro ⟨HI, #HR, Ha, Ht⟩
  ihave HK := (BI.bigSep_exists_pi Finset.univ (fun (cj : Dev nD × J) (κ : ℕ) => (cellInv ER (Rd X) κ (kcell cj) : sProp 𝕄))) $$ HI
  icases HK with ⟨%K, #HI⟩
  ihave Ht := (to_payers (F := F)) $$ Ht
  have h : ∀ c : Dev nD, iprop(((bigSep Finset.univ fun cj : Dev nD × J => cellInv ER (Rd X) (K cj) (kcell cj))
        ∗ (bigSep Finset.univ fun cj : Dev nD × J => reached ER (kcell cj) 0))
      ∗ (bigSep Finset.univ fun j : J => atPos ER (kcell (c, j)) 0 ∅ 0) ∗ payTokens (F := F) c) ⊢ Given X c := fun c => by
    unfold Given
    iintro ⟨H, Hr⟩
    isplitl [H]
    · iexists K; iexact H
    · iexact Hr
  iapply ((share_facts _).trans (bigSep_mono fun c _ => h c))
  isplitr
  · isplitl <;> iassumption
  · iapply (Entails.of_eq (bigSep_sep' Finset.univ (fun c : Dev nD => bigSep Finset.univ fun j : J => (atPos ER (kcell (c, j)) 0 ∅ 0 : sProp 𝕄)) (payTokens (F := F))).symm)
    isplitl [Ha] <;> iassumption

/-- From what was dealt and every semaphore of every device at zero. -/
theorem set_up : (bigSep Finset.univ fun c => iprop(Pipeline.ownSems0 (Ix := Unit) (Name := ℕ) (U := UU) (Lvl := ℕ) (Val := Elt F) (τ := τ) osem c
      ∗ unscopedSems0 c ∗ Dealt X c) : sProp 𝕄) ⊢ |={Set.univ}=> bigSep Finset.univ (Given X) :=
  ((bigSep_mono fun c _ => make X c).trans (bigSep_fupd _ _)).trans (BI.fupd_mono (gather X))

/-! ## The credits -/

/-- Whoever owes a cell in some direction is one device. -/
theorem one_neighbour (d : Fin 3) (c : Dev nD) (n : ℕ) : (∑ e : Dev nD, if nb e d = c then n else 0) = n := by
  refine (Equiv.sum_comp (nbEquiv d) fun e : Dev nD => if e = c then n else 0).trans ?_
  rw [Finset.sum_ite_eq', if_pos (Finset.mem_univ c)]

/-- All devices together owe a barrier three units. -/
theorem owed_bar (c : Dev nD) : (∑ e : Dev nD, oweB e 0 (barCell c) ()) = 3 := by
  have h (e : Dev nD) : oweB e 0 (barCell c) () = ∑ d : Fin 3, if nb e d = c then 1 else 0 := by
    unfold oweB owe
    rw [Pi.add_apply, Finsupp.add_apply, Finset.sum_apply, Finsupp.finset_sum_apply, Finset.sum_apply, Finsupp.finset_sum_apply,
      Finset.sum_eq_zero fun k _ => by rw [tallyAt_apply, if_neg fun h => by exact absurd (congrArg (fun g : GSem nD τ sig => g.2) h.1) (by simp)],
      zero_add]
    refine Finset.sum_congr (Finset.filter_true_of_mem fun _ _ => Nat.zero_le _) fun d _ => ?_
    rw [tallyAt_apply]
    exact if_congr ⟨fun h => (congrArg (fun g : GSem nD τ sig => g.1.1) h.1).symm, fun h => ⟨by rw [h], rfl⟩⟩ rfl rfl
  rw [Finset.sum_congr rfl fun e _ => h e, Finset.sum_comm, Finset.sum_congr rfl fun d _ => one_neighbour d c 1]
  rfl

/-- All devices together owe a receiver's cell its transfer's credit. -/
theorem owed_recv (c : Dev nD) (k : Fin 33) : (∑ e : Dev nD, oweB e 0 (recvCell c k) ()) = N k := by
  have h (e : Dev nD) : oweB e 0 (recvCell c k) () = if nb e (via k) = c then N k else 0 := by
    unfold oweB owe
    rw [Pi.add_apply, Finsupp.add_apply, Finset.sum_apply, Finsupp.finset_sum_apply, Finset.sum_apply, Finsupp.finset_sum_apply,
      Finset.sum_eq_zero (s := Finset.univ.filter fun d : Fin 3 => 0 ≤ d.val) fun d _ => by
        rw [tallyAt_apply, if_neg fun h => by exact absurd (congrArg (fun g : GSem nD τ sig => g.2) h.1) (by simp)],
      add_zero, Finset.filter_true_of_mem fun _ _ => Nat.zero_le _, Finset.sum_eq_single k]
    · rw [tallyAt_apply]
      exact if_congr ⟨fun h => (congrArg (fun g : GSem nD τ sig => g.1.1) h.1).symm, fun h => ⟨by unfold dst; rw [h], rfl⟩⟩ rfl rfl
    · intro j _ hj
      rw [tallyAt_apply, if_neg]
      rintro ⟨h, -⟩
      have := kcell_injective (a₁ := (c, some (k, true))) (a₂ := (dst e j, some (j, true))) h
      exact hj (congrArg Prod.fst (Option.some.inj (congrArg Prod.snd this))).symm
    · exact fun hk => absurd (Finset.mem_univ k) hk
  rw [Finset.sum_congr rfl fun e _ => h e, one_neighbour]

/-- The launch's credit of a cell is what all devices owe it. -/
theorem credit_at (g : GSem nD τ sig) (n : ℕ) (h : (∑ e : Dev nD, oweB e 0 g ()) = n) :
    tallyOn g (launchCredit (Pipeline.owing fun c => oweB c 0) 0 g) = (tallyAt g () n : CellTallies nD τ sig Unit) := by
  unfold tallyAt
  refine congrArg _ (Finsupp.ext fun u => ?_)
  cases u
  rw [Pipeline.launchCredit_owing, Finsupp.single_eq_same, h]

/-- What the devices owe each other at launch is, for each, a credit at its barrier and one at each of its landings. -/
theorem credits (c : Dev nD) : (Pipeline.launchCred (fun c => oweB c 0) c : sProp 𝕄)
    ⊢ iprop(cred (tallyAt (barCell c) () 3) ∗ bigSep Finset.univ fun k : Fin 33 => cred (tallyAt (recvCell c k) () (N k))) := by
  have h : bigSep Finset.univ (fun j : J => cred (tallyOn (kcell (c, j)) (launchCredit (Pipeline.owing fun c => oweB c 0) 0 (kcell (c, j)))))
      ⊢ iprop(cred (tallyAt (barCell c) () 3) ∗ bigSep Finset.univ fun k : Fin 33 => cred (tallyAt (recvCell c k) () (N k)) : sProp 𝕄) := by
    rw [bigSep_J]
    iintro ⟨Hb, -, Hr⟩
    isplitl [Hb]
    · rw [← credit_at (barCell c) 3 (owed_bar c)]
      iexact Hb
    · iapply (Entails.of_eq (bigSep_congr fun k _ => congrArg (fun t => (cred t : sProp 𝕄)) (credit_at (recvCell c k) (N k) (owed_recv c k))))
      iexact Hr
  unfold Pipeline.launchCred
  refine (BI.bigSep_subset (Finset.subset_univ (Finset.univ.map ⟨csem, csem_injective⟩))).trans ?_
  rw [BI.bigSep_map]
  exact h

end Cert.AllReduce

end
-- ==== Proof.Parts1.lean ====
/-
The parts of the kernel from its second copy on, first half. Each takes the state `St` from the numbers of starts, ready sources, waits for
sources, waits for landings and stores it begins with to those it ends with; a value it passes on is named with it.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Triple (step)

variable {F : FTy → Type} [FloatOps F]

variable (X : Dev nD → S4096x1024.Idx → F .f32) (K : Dev nD × J → ℕ) (c : Dev nD)

/-- Starts copies 1 and 2, waits for the source of copy 0 and waits for the next landing. -/
theorem part8 (v5 v8 v9 v41 : BitVec 32) :
    Triple c (St X K c 1 3 0 0 0) (onBufs (k0_part8 (F := F)) c v5 v8 v9 v41) (fun p => k0_pay2 p.1 p.2 = ownVec X c 0) (St X K c 3 3 1 1 0) := by
  rw [k0_part8_eq_skeleton]
  exact step c (start_chunk X K c 1 (by decide) rfl (by decide) (by decide) (Fin.ext (dev5 c)) rfl rfl (off1 c 1) rfl) fun _ =>
    step c (start_direct X K c (by decide) (by decide) (Fin.ext (dev6 c)) rfl rfl) fun _ =>
    step c (wait_source X K c 0 rfl (by decide) rfl (credit_rows (by decide))) fun _ =>
    step c (wait_landing X K c 0 rfl rfl (by decide) rfl (credit_half (by decide))) fun _ =>
    (load_rows X K c 0 (off2 c 0)).bind fun v236 hv236 =>
    (load_half X K c 0 (by decide) rfl).bind fun v238 hv238 =>
    .pure c (by rw [hv236, hv238]; rfl)

/-- Starts copies 3 and 4 and makes the sources of copies 3 and 4 ready. -/
theorem part9 (v2 v41 v71 v101 v131 v161 : BitVec 32) (v237 : FVec F S80x1024 .f32) (v238 : Vec F S80x1024 .f32) (h : k0_pay2 v237 v238 = ownVec X c 0) :
    Triple c (St X K c 3 3 1 1 0) (onBufs (k0_part9 (F := F)) c v2 v41 v71 v101 v131 v161 v237 v238) (fun _ => True) (St X K c 5 5 1 1 0) := by
  rw [k0_part9_eq_skeleton]
  exact step c (load_unstored X K c 0 (by decide) (off3 c)) fun _ =>
    step c (store_own X K c 0 rfl (by decide) (off3 c) h) fun _ =>
    send_piece X K c 3 (dev7 c) (own1 c (off4 c)) <|
    send_piece X K c 4 (dev8 c) (own1 c (off4 c)) <|
    .pure c trivial

/-- Waits for the source of copy 1, waits for the next landing and makes the sources of copies 5 and 6 ready. -/
theorem part10 (v2 v5 v8 v9 v41 v71 : BitVec 32) :
    Triple c (St X K c 5 5 1 1 0) (onBufs (k0_part10 (F := F)) c v2 v5 v8 v9 v41 v71) (fun _ => True) (St X K c 5 7 2 2 0) := by
  rw [k0_part10_eq_skeleton]
  exact step c (wait_source X K c 1 rfl (by decide) rfl (credit_rows (by decide))) fun _ =>
    step c (wait_landing X K c 1 rfl rfl (by decide) rfl (credit_half (by decide))) fun _ =>
    (load_rows X K c 1 (off2 c 1)).bind fun v290 hv290 =>
    (load_half X K c 1 (by decide) rfl).bind fun v292 hv292 =>
    step c (load_unstored X K c 1 (by decide) (off5 c)) fun _ =>
    step c (store_own X K c 1 rfl (by decide) (off5 c) (by rw [hv290, hv292]; rfl)) fun _ =>
    .pure c trivial

/-- Starts copies 5 and 6 and stores the next block of the result. -/
theorem part11 (v2 v41 v101 v131 v161 v301 c1_i32_258 : BitVec 32) :
    Triple c (St X K c 5 7 2 2 0) (onBufs (k0_part11 (F := F)) c v2 v41 v101 v131 v161 v301 c1_i32_258) (fun p => p = pieceVec X c (slot c 2)) (St X K c 7 7 2 2 1) := by
  rw [k0_part11_eq_skeleton]
  exact send_piece X K c 5 (dev9 c) (own2 c (off6 c)) <|
    send_piece X K c 6 (dev10 c) (own2 c (off6 c)) <|
    move_piece X K c 1 (own1 c (off3 c)) (rown1 c (off2 c 0)) fun _ =>
    read_piece X K c 2 (own2 c (off5 c)) fun v335 hv335 =>
    .pure c hv335

/-- Waits for the next landing, makes the source of copy 7 ready and stores the next block of the result. -/
theorem part12 (v2 v41 v131 v161 : BitVec 32) (v336 : FVec F S80x1024 .f32) (hv336 : v336 = pieceVec X c (slot c 2)) :
    Triple c (St X K c 7 7 2 2 1) (onBufs (k0_part12 (F := F)) c v2 v41 v131 v161 v336) (fun _ => True) (St X K c 7 8 2 3 2) := by
  rw [k0_part12_eq_skeleton]
  exact put_piece X K c 2 (rown2 c (off2 c 1)) hv336 <|
    land_piece X K c 3 <|
    .pure c trivial

/-- Starts copy 7. -/
theorem part13 (v2 v41 v71 v101 v131 v161 v367 c4_i32_307 : BitVec 32) :
    Triple c (St X K c 7 8 2 3 2) (onBufs (k0_part13 (F := F)) c v2 v41 v71 v101 v131 v161 v367 c4_i32_307) (fun _ => True) (St X K c 8 8 2 3 2) := by
  rw [k0_part13_eq_skeleton]
  exact send_piece X K c 7 (dev11 c) (off7 c 0) <|
    .pure c trivial

/-- Starts copy 8, waits for the next landing, makes the source of copy 8 ready and stores the next two blocks of the
    result. -/
theorem part14 (v2 v41 v131 v161 v353 v391 : BitVec 32) :
    Triple c (St X K c 8 8 2 3 2) (onBufs (k0_part14 (F := F)) c v2 v41 v131 v161 v353 v391) (fun _ => True) (St X K c 9 9 2 4 4) := by
  rw [k0_part14_eq_skeleton]
  exact land_piece X K c 4 <|
    send_piece X K c 8 (dev12 c) (off8 c 0) <|
    move_piece X K c 3 (off9 c 0) (off10 c 0 0) fun _ =>
    move_piece X K c 4 (off11 c 0) (off12 c 0 0) fun _ =>
    .pure c trivial

/-- Waits for the next landing and makes the source of copy 9 ready. -/
theorem part15 (v2 v71 v101 v131 v161 v435 : BitVec 32) :
    Triple c (St X K c 9 9 2 4 4) (onBufs (k0_part15 (F := F)) c v2 v71 v101 v131 v161 v435) (fun _ => True) (St X K c 9 10 2 5 4) := by
  rw [k0_part15_eq_skeleton]
  exact land_piece X K c 5 <|
    .pure c trivial

/-- Starts copy 9, waits for the next landing and makes the source of copy 10 ready. -/
theorem part16 (v2 v41 v131 v161 : BitVec 32) :
    Triple c (St X K c 9 10 2 5 4) (onBufs (k0_part16 (F := F)) c v2 v41 v131 v161) (fun _ => True) (St X K c 10 11 2 6 4) := by
  rw [k0_part16_eq_skeleton]
  exact send_piece X K c 9 (dev13 c) (off13 c 0) <|
    land_piece X K c 6 <|
    .pure c trivial

/-- Starts copy 10 and stores the next two blocks of the result. -/
theorem part17 (v41 v445 v483 : BitVec 32) :
    Triple c (St X K c 10 11 2 6 4) (onBufs (k0_part17 (F := F)) c v41 v445 v483) (fun _ => True) (St X K c 11 11 2 6 6) := by
  rw [k0_part17_eq_skeleton]
  exact send_piece X K c 10 (dev14 c) (off14 c 0) <|
    move_piece X K c 5 (off15 c 0) (off10 c 0 1) fun _ =>
    move_piece X K c 6 (off16 c 0) (off12 c 0 1) fun _ =>
    .pure c trivial

/-- Starts copy 11, waits for the next landing and makes the source of copy 11 ready. -/
theorem part18 (v2 v41 v71 v101 v131 v161 v529 v530 : BitVec 32) (v535 : BitVec 1) :
    Triple c (St X K c 11 11 2 6 6) (onBufs (k0_part18 (F := F)) c v2 v41 v71 v101 v131 v161 v529 v530 v535) (fun _ => True) (St X K c 12 12 2 7 6) := by
  rw [k0_part18_eq_skeleton]
  exact land_piece X K c 7 <|
    send_piece X K c 11 (dev15 c) (off7 c 1) <|
    .pure c trivial

/-- Starts copy 12, waits for the next landing and makes the source of copy 12 ready. -/
theorem part19 (v2 v131 v161 v537 v567 v568 : BitVec 32) :
    Triple c (St X K c 12 12 2 7 6) (onBufs (k0_part19 (F := F)) c v2 v131 v161 v537 v567 v568) (fun _ => True) (St X K c 13 13 2 8 6) := by
  rw [k0_part19_eq_skeleton]
  exact land_piece X K c 8 <|
    send_piece X K c 12 (dev16 c) (off8 c 1) <|
    .pure c trivial

/-- Stores the next two blocks of the result. -/
theorem part20 (v2 v41 v131 v161 v537 v575 : BitVec 32) :
    Triple c (St X K c 13 13 2 8 6) (onBufs (k0_part20 (F := F)) c v2 v41 v131 v161 v537 v575) (fun _ => True) (St X K c 13 13 2 8 8) := by
  rw [k0_part20_eq_skeleton]
  exact move_piece X K c 7 (off9 c 1) (off10 c 1 0) fun _ =>
    move_piece X K c 8 (off11 c 1) (off12 c 1 0) fun _ =>
    .pure c trivial

/-- Starts copy 13, waits for the next landing and makes the source of copy 13 ready. -/
theorem part21 (v2 v41 v71 v101 : BitVec 32) :
    Triple c (St X K c 13 13 2 8 8) (onBufs (k0_part21 (F := F)) c v2 v41 v71 v101) (fun _ => True) (St X K c 14 14 2 9 8) := by
  rw [k0_part21_eq_skeleton]
  exact land_piece X K c 9 <|
    send_piece X K c 13 (dev17 c) (off13 c 1) <|
    .pure c trivial

/-- Starts copy 14, waits for the next landing, makes the source of copy 14 ready and stores the next block of the
    result. -/
theorem part22 (v2 v131 v161 v629 v667 v668 : BitVec 32) :
    Triple c (St X K c 14 14 2 9 8) (onBufs (k0_part22 (F := F)) c v2 v131 v161 v629 v667 v668) (fun _ => True) (St X K c 15 15 2 10 9) := by
  rw [k0_part22_eq_skeleton]
  exact land_piece X K c 10 <|
    send_piece X K c 14 (dev18 c) (off14 c 1) <|
    move_piece X K c 9 (off15 c 1) (off10 c 1 1) fun _ =>
    .pure c trivial

/-- Waits for the next landing, makes the source of copy 15 ready and stores the next block of the result. -/
theorem part23 (v2 v41 v131 v161 v667 : BitVec 32) :
    Triple c (St X K c 15 15 2 10 9) (onBufs (k0_part23 (F := F)) c v2 v41 v131 v161 v667) (fun _ => True) (St X K c 15 16 2 11 10) := by
  rw [k0_part23_eq_skeleton]
  exact move_piece X K c 10 (off16 c 1) (off12 c 1 1) fun _ =>
    land_piece X K c 11 <|
    .pure c trivial

/-- Starts copy 15. -/
theorem part24 (v2 v41 v71 v101 v131 v161 c16_i32_577 : BitVec 32) :
    Triple c (St X K c 15 16 2 11 10) (onBufs (k0_part24 (F := F)) c v2 v41 v71 v101 v131 v161 c16_i32_577) (fun _ => True) (St X K c 16 16 2 11 10) := by
  rw [k0_part24_eq_skeleton]
  exact send_piece X K c 15 (dev19 c) (off7 c 2) <|
    .pure c trivial

/-- Starts copy 16, waits for the next landing, makes the source of copy 16 ready and stores the next two blocks of the
    result. -/
theorem part25 (v2 v131 v161 v721 v759 : BitVec 32) :
    Triple c (St X K c 16 16 2 11 10) (onBufs (k0_part25 (F := F)) c v2 v131 v161 v721 v759) (fun _ => True) (St X K c 17 17 2 12 12) := by
  rw [k0_part25_eq_skeleton]
  exact land_piece X K c 12 <|
    send_piece X K c 16 (dev20 c) (off8 c 2) <|
    move_piece X K c 11 (off9 c 2) (off10 c 2 0) fun _ =>
    move_piece X K c 12 (off11 c 2) (off12 c 2 0) fun _ =>
    .pure c trivial

/-- Waits for the next landing and makes the source of copy 17 ready. -/
theorem part26 (v2 v41 v71 v101 v131 v161 : BitVec 32) :
    Triple c (St X K c 17 17 2 12 12) (onBufs (k0_part26 (F := F)) c v2 v41 v71 v101 v131 v161) (fun _ => True) (St X K c 17 18 2 13 12) := by
  rw [k0_part26_eq_skeleton]
  exact land_piece X K c 13 <|
    .pure c trivial

/-- Starts copy 17, waits for the next landing and makes the source of copy 18 ready. -/
theorem part27 (v2 v41 v131 v161 : BitVec 32) :
    Triple c (St X K c 17 18 2 13 12) (onBufs (k0_part27 (F := F)) c v2 v41 v131 v161) (fun _ => True) (St X K c 18 19 2 14 12) := by
  rw [k0_part27_eq_skeleton]
  exact send_piece X K c 17 (dev21 c) (off13 c 2) <|
    land_piece X K c 14 <|
    .pure c trivial

/-- Starts copy 18 and stores the next two blocks of the result. -/
theorem part28 (v41 v161 v813 v851 v867 : BitVec 32) :
    Triple c (St X K c 18 19 2 14 12) (onBufs (k0_part28 (F := F)) c v41 v161 v813 v851 v867) (fun _ => True) (St X K c 19 19 2 14 14) := by
  rw [k0_part28_eq_skeleton]
  exact send_piece X K c 18 (dev22 c) (off14 c 2) <|
    move_piece X K c 13 (off15 c 2) (off10 c 2 1) fun _ =>
    move_piece X K c 14 (off16 c 2) (off12 c 2 1) fun _ =>
    .pure c trivial

/-- Starts copy 19, waits for the next landing and makes the source of copy 19 ready. -/
theorem part29 (v2 v41 v71 v101 v131 v161 v897 v898 : BitVec 32) (v899 v900 : BitVec 1) :
    Triple c (St X K c 19 19 2 14 14) (onBufs (k0_part29 (F := F)) c v2 v41 v71 v101 v131 v161 v897 v898 v899 v900) (fun _ => True) (St X K c 20 20 2 15 14) := by
  rw [k0_part29_eq_skeleton]
  exact land_piece X K c 15 <|
    send_piece X K c 19 (dev23 c) (off7 c 3) <|
    .pure c trivial

/-- Waits for the next landing and makes the source of copy 20 ready. -/
theorem part30 (v2 v131 v161 v933 c16_i32_723 c0_i32_724 : BitVec 32) :
    Triple c (St X K c 20 20 2 15 14) (onBufs (k0_part30 (F := F)) c v2 v131 v161 v933 c16_i32_723 c0_i32_724) (fun _ => True) (St X K c 20 21 2 16 14) := by
  rw [k0_part30_eq_skeleton]
  exact land_piece X K c 16 <|
    .pure c trivial

/-- Starts copy 20 and stores the next two blocks of the result. -/
theorem part31 (v2 v41 v131 v905 v943 : BitVec 32) :
    Triple c (St X K c 20 21 2 16 14) (onBufs (k0_part31 (F := F)) c v2 v41 v131 v905 v943) (fun _ => True) (St X K c 21 21 2 16 16) := by
  rw [k0_part31_eq_skeleton]
  exact send_piece X K c 20 (dev24 c) (off8 c 3) <|
    move_piece X K c 15 (off9 c 3) (off10 c 3 0) fun _ =>
    move_piece X K c 16 (off11 c 3) (off12 c 3 0) fun _ =>
    .pure c trivial

/-- Starts copy 21, waits for the next landing and makes the source of copy 21 ready. -/
theorem part32 (v2 v41 v71 v101 v161 v999 v1000 : BitVec 32) :
    Triple c (St X K c 21 21 2 16 16) (onBufs (k0_part32 (F := F)) c v2 v41 v71 v101 v161 v999 v1000) (fun _ => True) (St X K c 22 22 2 17 16) := by
  rw [k0_part32_eq_skeleton]
  exact land_piece X K c 17 <|
    send_piece X K c 21 (dev25 c) (off13 c 3) <|
    .pure c trivial

end Cert.AllReduce

end
-- ==== Proof.Parts2.lean ====
/-
The parts of the kernel, second half.
-/
module

public import proofs.«01_k».proof.Proof.Parts1

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Triple (step)

variable {F : FTy → Type} [FloatOps F]

variable (X : Dev nD → S4096x1024.Idx → F .f32) (K : Dev nD × J → ℕ) (c : Dev nD)

/-- Starts copy 22, waits for the next landing and makes the source of copy 22 ready. -/
theorem part33 (v2 v131 v161 v997 : BitVec 32) :
    Triple c (St X K c 22 22 2 17 16) (onBufs (k0_part33 (F := F)) c v2 v131 v161 v997) (fun p => p = pieceVec X c (slot c 17)) (St X K c 23 23 2 18 16) := by
  rw [k0_part33_eq_skeleton]
  exact land_piece X K c 18 <|
    send_piece X K c 22 (dev26 c) (off14 c 3) <|
    read_piece X K c 17 (off15 c 3) fun v1063 hv1063 =>
    .pure c hv1063

/-- Stores the next two blocks of the result. -/
theorem part34 (v2 v41 v131 v161 v1035 : BitVec 32) (v1064 : FVec F S80x1024 .f32) (hv1064 : v1064 = pieceVec X c (slot c 17)) :
    Triple c (St X K c 23 23 2 18 16) (onBufs (k0_part34 (F := F)) c v2 v41 v131 v161 v1035 v1064) (fun _ => True) (St X K c 23 23 2 18 18) := by
  rw [k0_part34_eq_skeleton]
  exact put_piece X K c 17 (off10 c 3 1) hv1064 <|
    move_piece X K c 18 (off16 c 3) (off12 c 3 1) fun _ =>
    .pure c trivial

/-- Starts copy 23, waits for the next landing and makes the source of copy 23 ready. -/
theorem part35 (v2 v41 v71 v101 v131 v161 : BitVec 32) :
    Triple c (St X K c 23 23 2 18 18) (onBufs (k0_part35 (F := F)) c v2 v41 v71 v101 v131 v161) (fun _ => True) (St X K c 24 24 2 19 18) := by
  rw [k0_part35_eq_skeleton]
  exact land_piece X K c 19 <|
    send_piece X K c 23 (dev27 c) (off7 c 4) <|
    .pure c trivial

/-- Starts copy 24, waits for the next landing, makes the source of copy 24 ready and stores the next block of the
    result. -/
theorem part36 (v2 v131 v161 v1089 v1127 : BitVec 32) :
    Triple c (St X K c 24 24 2 19 18) (onBufs (k0_part36 (F := F)) c v2 v131 v161 v1089 v1127) (fun p => p.1 = pieceVec X c (slot c 20)) (St X K c 25 25 2 20 19) := by
  rw [k0_part36_eq_skeleton]
  exact land_piece X K c 20 <|
    send_piece X K c 24 (dev28 c) (off8 c 4) <|
    move_piece X K c 19 (off9 c 4) (off10 c 4 0) fun _ =>
    read_piece X K c 20 (off11 c 4) fun v1163 hv1163 =>
    .pure c hv1163

/-- Waits for the next landing, makes the source of copy 25 ready and stores the next block of the result. -/
theorem part37 (v2 v41 v71 v101 v131 v161 : BitVec 32) (v1164 : FVec F S80x1024 .f32) (v1167 : BitVec 32) (hv1164 : v1164 = pieceVec X c (slot c 20)) :
    Triple c (St X K c 25 25 2 20 19) (onBufs (k0_part37 (F := F)) c v2 v41 v71 v101 v131 v161 v1164 v1167) (fun _ => True) (St X K c 25 26 2 21 20) := by
  rw [k0_part37_eq_skeleton]
  exact put_piece X K c 20 (off12 c 4 0) hv1164 <|
    land_piece X K c 21 <|
    .pure c trivial

/-- Starts copy 25, waits for the next landing and makes the source of copy 26 ready. -/
theorem part38 (v2 v41 v131 v161 : BitVec 32) :
    Triple c (St X K c 25 26 2 21 20) (onBufs (k0_part38 (F := F)) c v2 v41 v131 v161) (fun _ => True) (St X K c 26 27 2 22 20) := by
  rw [k0_part38_eq_skeleton]
  exact send_piece X K c 25 (dev29 c) (off13 c 4) <|
    land_piece X K c 22 <|
    .pure c trivial

/-- Starts copy 26 and stores the next two blocks of the result. -/
theorem part39 (v41 v131 v161 v1181 v1219 v1232 c0_i32_946 : BitVec 32) :
    Triple c (St X K c 26 27 2 22 20) (onBufs (k0_part39 (F := F)) c v41 v131 v161 v1181 v1219 v1232 c0_i32_946) (fun _ => True) (St X K c 27 27 2 22 22) := by
  rw [k0_part39_eq_skeleton]
  exact send_piece X K c 26 (dev30 c) (off14 c 4) <|
    move_piece X K c 21 (off15 c 4) (off10 c 4 1) fun _ =>
    move_piece X K c 22 (off16 c 4) (off12 c 4 1) fun _ =>
    .pure c trivial

/-- Starts copy 27, waits for the next landing and makes the source of copy 27 ready. -/
theorem part40 (v2 v41 v71 v101 v131 v161 v1265 v1266 : BitVec 32) :
    Triple c (St X K c 27 27 2 22 22) (onBufs (k0_part40 (F := F)) c v2 v41 v71 v101 v131 v161 v1265 v1266) (fun _ => True) (St X K c 28 28 2 23 22) := by
  rw [k0_part40_eq_skeleton]
  exact land_piece X K c 23 <|
    send_piece X K c 27 (dev31 c) (off7 c 5) <|
    .pure c trivial

/-- Waits for the next landing and makes the source of copy 28 ready. -/
theorem part41 (v2 v131 v161 v1300 : BitVec 32) :
    Triple c (St X K c 28 28 2 23 22) (onBufs (k0_part41 (F := F)) c v2 v131 v161 v1300) (fun _ => True) (St X K c 28 29 2 24 22) := by
  rw [k0_part41_eq_skeleton]
  exact land_piece X K c 24 <|
    .pure c trivial

/-- Starts copy 28 and stores the next two blocks of the result. -/
theorem part42 (v2 v41 v1273 v1311 : BitVec 32) :
    Triple c (St X K c 28 29 2 24 22) (onBufs (k0_part42 (F := F)) c v2 v41 v1273 v1311) (fun _ => True) (St X K c 29 29 2 24 24) := by
  rw [k0_part42_eq_skeleton]
  exact send_piece X K c 28 (dev32 c) (off8 c 5) <|
    move_piece X K c 23 (off9 c 5) (off10 c 5 0) fun _ =>
    move_piece X K c 24 (off11 c 5) (off12 c 5 0) fun _ =>
    .pure c trivial

/-- Starts copy 29, waits for the next landing and makes the source of copy 29 ready. -/
theorem part43 (v2 v41 v71 v101 v131 v161 v1366 : BitVec 32) :
    Triple c (St X K c 29 29 2 24 24) (onBufs (k0_part43 (F := F)) c v2 v41 v71 v101 v131 v161 v1366) (fun _ => True) (St X K c 30 30 2 25 24) := by
  rw [k0_part43_eq_skeleton]
  exact land_piece X K c 25 <|
    send_piece X K c 29 (dev33 c) (off13 c 5) <|
    .pure c trivial

/-- Starts copy 30, waits for the next landing and makes the source of copy 30 ready. -/
theorem part44 (v2 v131 v161 v1365 v1395 v1396 : BitVec 32) (v1397 v1398 v1399 : BitVec 1) :
    Triple c (St X K c 30 30 2 25 24) (onBufs (k0_part44 (F := F)) c v2 v131 v161 v1365 v1395 v1396 v1397 v1398 v1399) (fun p => p.2.1 = pieceVec X c (slot c 25)) (St X K c 31 31 2 26 24) := by
  rw [k0_part44_eq_skeleton]
  exact land_piece X K c 26 <|
    send_piece X K c 30 (dev34 c) (off14 c 5) <|
    read_piece X K c 25 (off15 c 5) fun v1431 hv1431 =>
    .pure c hv1431

/-- Stores the next two blocks of the result. -/
theorem part45 (v2 v41 v131 v161 v1403 : BitVec 32) (v1432 : FVec F S80x1024 .f32) (v1433 c1536_i32_1092 : BitVec 32) (hv1432 : v1432 = pieceVec X c (slot c 25)) :
    Triple c (St X K c 31 31 2 26 24) (onBufs (k0_part45 (F := F)) c v2 v41 v131 v161 v1403 v1432 v1433 c1536_i32_1092) (fun _ => True) (St X K c 31 31 2 26 26) := by
  rw [k0_part45_eq_skeleton]
  exact put_piece X K c 25 (off10 c 5 1) hv1432 <|
    move_piece X K c 26 (off16 c 5) (off12 c 5 1) fun _ =>
    .pure c trivial

/-- Starts copy 31, waits for the next landing and makes the source of copy 31 ready. -/
theorem part46 (v2 v41 v71 v101 v131 : BitVec 32) :
    Triple c (St X K c 31 31 2 26 26) (onBufs (k0_part46 (F := F)) c v2 v41 v71 v101 v131) (fun _ => True) (St X K c 32 32 2 27 26) := by
  rw [k0_part46_eq_skeleton]
  exact land_piece X K c 27 <|
    send_piece X K c 31 (dev35 c) (off7 c 6) <|
    .pure c trivial

/-- Waits for the next landing and stores the next two blocks of the result. -/
theorem part47 (v41 v161 v1457 v1495 v1499 c1_i32_1142 : BitVec 32) :
    Triple c (St X K c 32 32 2 27 26) (onBufs (k0_part47 (F := F)) c v41 v161 v1457 v1495 v1499 c1_i32_1142) (fun _ => True) (St X K c 32 32 2 28 28) := by
  rw [k0_part47_eq_skeleton]
  exact land_last X K c 28 <|
    move_piece X K c 27 (off9 c 6) (off10 c 6 0) fun _ =>
    move_piece X K c 28 (off11 c 6) (off12 c 6 0) fun _ =>
    .pure c trivial

/-- Starts copy 32, waits for the next landing and makes the source of copy 32 ready. -/
theorem part48 (v2 v41 v71 v101 v131 v161 v1527 v1528 : BitVec 32) (v1529 v1532 : BitVec 1) :
    Triple c (St X K c 32 32 2 28 28) (onBufs (k0_part48 (F := F)) c v2 v41 v71 v101 v131 v161 v1527 v1528 v1529 v1532) (fun _ => True) (St X K c 33 33 2 29 28) := by
  rw [k0_part48_eq_skeleton]
  exact land_piece X K c 29 <|
    send_piece X K c 32 (dev36 c) (off13 c 6) <|
    .pure c trivial

/-- Waits for the next landing and stores the next block of the result. -/
theorem part49 (v2 v131 v161 v1535 v1563 v1565 : BitVec 32) :
    Triple c (St X K c 33 33 2 29 28) (onBufs (k0_part49 (F := F)) c v2 v131 v161 v1535 v1563 v1565) (fun p => p.1 = pieceVec X c (slot c 30)) (St X K c 33 33 2 30 29) := by
  rw [k0_part49_eq_skeleton]
  exact land_last X K c 30 <|
    move_piece X K c 29 (off15 c 6) (off10 c 6 1) fun _ =>
    read_piece X K c 30 (off16 c 6) fun v1595 hv1595 =>
    .pure c hv1595

/-- Waits for the next landing and stores the next block of the result. -/
theorem part50 (v2 v41 v131 v161 : BitVec 32) (v1596 : FVec F S80x1024 .f32) (v1599 : BitVec 32) (hv1596 : v1596 = pieceVec X c (slot c 30)) :
    Triple c (St X K c 33 33 2 30 29) (onBufs (k0_part50 (F := F)) c v2 v41 v131 v161 v1596 v1599) (fun p => p = pieceVec X c (slot c 31)) (St X K c 33 33 2 31 30) := by
  rw [k0_part50_eq_skeleton]
  exact put_piece X K c 30 (off12 c 6 1) hv1596 <|
    land_last X K c 31 <|
    read_piece X K c 31 (off9 c 7) fun v1627 hv1627 =>
    .pure c hv1627

/-- Waits for the next landing and stores the next two blocks of the result. -/
theorem part51 (v2 v41 v131 v161 : BitVec 32) (v1628 : FVec F S80x1024 .f32) (hv1628 : v1628 = pieceVec X c (slot c 31)) :
    Triple c (St X K c 33 33 2 31 30) (onBufs (k0_part51 (F := F)) c v2 v41 v131 v161 v1628) (fun _ => True) (St X K c 33 33 2 32 32) := by
  rw [k0_part51_eq_skeleton]
  exact put_piece X K c 31 (off10 c 7 0) hv1628 <|
    land_last X K c 32 <|
    move_piece X K c 32 (off15 c 7) (off10 c 7 1) fun _ =>
    .pure c trivial

/-- Waits for the sources of copies 2 to 4, waits for the next landing and stores the next block of the result. -/
theorem part52 (v5 v8 v9 : BitVec 32) :
    Triple c (St X K c 33 33 2 32 32) (onBufs (k0_part52 (F := F)) c v5 v8 v9) (fun _ => True) (St X K c 33 33 5 33 33) := by
  rw [k0_part52_eq_skeleton]
  exact step c (wait_landing X K c 2 rfl rfl (by decide) rfl rfl) fun _ =>
    (load_direct_rows X K c).bind fun v1673 hv1673 =>
    (load_direct X K c (by decide)).bind fun v1675 hv1675 =>
    step c (load_out X K c) fun _ =>
    step c (store_direct X K c (by rw [hv1673, hv1675]; rfl)) fun _ =>
    step c (wait_source X K c 2 rfl (by decide) rfl rfl) fun _ =>
    back_piece X K c 3 <|
    back_piece X K c 4 <|
    .pure c trivial

/-- Waits for the sources of copies 5 to 8. -/
theorem part53 :
    Triple c (St X K c 33 33 5 33 33) (onBufs (k0_part53 (F := F)) c) (fun _ => True) (St X K c 33 33 9 33 33) := by
  rw [k0_part53_eq_skeleton]
  exact back_piece X K c 5 <|
    back_piece X K c 6 <|
    back_piece X K c 7 <|
    back_piece X K c 8 <|
    .pure c trivial

/-- Waits for the sources of copies 9 to 12. -/
theorem part54 :
    Triple c (St X K c 33 33 9 33 33) (onBufs (k0_part54 (F := F)) c) (fun _ => True) (St X K c 33 33 13 33 33) := by
  rw [k0_part54_eq_skeleton]
  exact back_piece X K c 9 <|
    back_piece X K c 10 <|
    back_piece X K c 11 <|
    back_piece X K c 12 <|
    .pure c trivial

/-- Waits for the sources of copies 13 to 16. -/
theorem part55 :
    Triple c (St X K c 33 33 13 33 33) (onBufs (k0_part55 (F := F)) c) (fun _ => True) (St X K c 33 33 17 33 33) := by
  rw [k0_part55_eq_skeleton]
  exact back_piece X K c 13 <|
    back_piece X K c 14 <|
    back_piece X K c 15 <|
    back_piece X K c 16 <|
    .pure c trivial

/-- Waits for the sources of copies 17 to 21. -/
theorem part56 :
    Triple c (St X K c 33 33 17 33 33) (onBufs (k0_part56 (F := F)) c) (fun _ => True) (St X K c 33 33 22 33 33) := by
  rw [k0_part56_eq_skeleton]
  exact back_piece X K c 17 <|
    back_piece X K c 18 <|
    back_piece X K c 19 <|
    back_piece X K c 20 <|
    back_piece X K c 21 <|
    .pure c trivial

/-- Waits for the sources of copies 22 to 25. -/
theorem part57 :
    Triple c (St X K c 33 33 22 33 33) (onBufs (k0_part57 (F := F)) c) (fun _ => True) (St X K c 33 33 26 33 33) := by
  rw [k0_part57_eq_skeleton]
  exact back_piece X K c 22 <|
    back_piece X K c 23 <|
    back_piece X K c 24 <|
    back_piece X K c 25 <|
    .pure c trivial

/-- Waits for the sources of copies 26 to 29. -/
theorem part58 :
    Triple c (St X K c 33 33 26 33 33) (onBufs (k0_part58 (F := F)) c) (fun _ => True) (St X K c 33 33 30 33 33) := by
  rw [k0_part58_eq_skeleton]
  exact back_piece X K c 26 <|
    back_piece X K c 27 <|
    back_piece X K c 28 <|
    back_piece X K c 29 <|
    .pure c trivial

end Cert.AllReduce

end
-- ==== Proof.Body.lean ====
/-
The whole of the all-reduce kernel on one device.
-/
module

public import proofs.«01_k».proof.Proof.Start
public import proofs.«01_k».proof.Proof.Parts2

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Triple (step)

variable {F : FTy → Type} [FloatOps F]

variable (X : Dev nD → S4096x1024.Idx → F .f32) (K : Dev nD × J → ℕ) (c : Dev nD)

/-- All parts but the last three waits: the device knows itself as `c`. -/
theorem part59 : Triple c (Pre X K c 0) (onBufs (k0_part59 (F := F))) (fun d => d = c) (St X K c 33 33 30 33 33) := by
  rw [k0_part59_eq_skeleton]
  refine (part1 c).bind ?_
  rintro ⟨d0, v2, v5, v8, v9, v11, v29, v30⟩ hd
  obtain rfl : c = d0 := hd.symm
  refine step c (part2 c _ _ _) fun ⟨v41, v59, c10_i32_41⟩ => ?_
  refine step c (part3 c _ _ _) fun ⟨v71, v89⟩ => ?_
  refine step c (part4 c _ _) fun ⟨v101, v117, v118, c2_i32_102⟩ => ?_
  refine step c (part5 c _ _ _ _) fun ⟨v131, v147, v148⟩ => ?_
  refine (part6 X K c _ _ _ _ _ _ _ _ _ _).bind fun ⟨v161, v162, v178, c1_i32_160⟩ hbar => ?_
  refine step c (part7 X K c _ _ _ _ _ _ _ _ hbar) fun _ => ?_
  refine (part8 X K c _ _ _ _).bind fun ⟨v237, v238⟩ hown => ?_
  refine step c (part9 X K c _ _ _ _ _ _ _ _ hown) fun _ => ?_
  refine step c (part10 X K c _ _ _ _ _ _) fun ⟨v301, c1_i32_258⟩ => ?_
  refine (part11 X K c _ _ _ _ _ _ _).bind fun v336 hv => ?_
  refine step c (part12 X K c _ _ _ _ _ hv) fun ⟨v353, v367, c4_i32_307⟩ => ?_
  refine step c (part13 X K c _ _ _ _ _ _ _ _) fun v391 => ?_
  refine step c (part14 X K c _ _ _ _ _ _) fun v435 => ?_
  refine step c (part15 X K c _ _ _ _ _ _) fun v445 => ?_
  refine step c (part16 X K c _ _ _ _) fun v483 => ?_
  refine step c (part17 X K c _ _ _) fun ⟨v529, v530, v535⟩ => ?_
  refine step c (part18 X K c _ _ _ _ _ _ _ _ _) fun ⟨v537, v567, v568⟩ => ?_
  refine step c (part19 X K c _ _ _ _ _ _) fun v575 => ?_
  refine step c (part20 X K c _ _ _ _ _ _) fun v629 => ?_
  refine step c (part21 X K c _ _ _ _) fun ⟨v667, v668⟩ => ?_
  refine step c (part22 X K c _ _ _ _ _ _) fun _ => ?_
  refine step c (part23 X K c _ _ _ _ _) fun ⟨v721, c16_i32_577⟩ => ?_
  refine step c (part24 X K c _ _ _ _ _ _ _) fun v759 => ?_
  refine step c (part25 X K c _ _ _ _ _) fun _ => ?_
  refine step c (part26 X K c _ _ _ _ _ _) fun v813 => ?_
  refine step c (part27 X K c _ _ _ _) fun ⟨v851, v867⟩ => ?_
  refine step c (part28 X K c _ _ _ _ _) fun ⟨v897, v898, v899, v900⟩ => ?_
  refine step c (part29 X K c _ _ _ _ _ _ _ _ _ _) fun ⟨v905, v933, c16_i32_723, c0_i32_724⟩ => ?_
  refine step c (part30 X K c _ _ _ _ _ _) fun v943 => ?_
  refine step c (part31 X K c _ _ _ _ _) fun ⟨v997, v999, v1000⟩ => ?_
  refine step c (part32 X K c _ _ _ _ _ _ _) fun v1035 => ?_
  refine (part33 X K c _ _ _ _).bind fun v1064 hv => ?_
  refine step c (part34 X K c _ _ _ _ _ _ hv) fun v1089 => ?_
  refine step c (part35 X K c _ _ _ _ _ _) fun v1127 => ?_
  refine (part36 X K c _ _ _ _ _).bind fun ⟨v1164, v1167⟩ hv => ?_
  refine step c (part37 X K c _ _ _ _ _ _ _ _ hv) fun v1181 => ?_
  refine step c (part38 X K c _ _ _ _) fun ⟨v1219, v1232, c0_i32_946⟩ => ?_
  refine step c (part39 X K c _ _ _ _ _ _ _) fun ⟨v1265, v1266⟩ => ?_
  refine step c (part40 X K c _ _ _ _ _ _ _ _) fun ⟨v1273, v1300⟩ => ?_
  refine step c (part41 X K c _ _ _ _) fun v1311 => ?_
  refine step c (part42 X K c _ _ _ _) fun ⟨v1365, v1366⟩ => ?_
  refine step c (part43 X K c _ _ _ _ _ _ _) fun ⟨v1395, v1396, v1397, v1398, v1399⟩ => ?_
  refine (part44 X K c _ _ _ _ _ _ _ _ _).bind fun ⟨v1403, v1432, v1433, c1536_i32_1092⟩ hv => ?_
  refine step c (part45 X K c _ _ _ _ _ _ _ _ hv) fun v1457 => ?_
  refine step c (part46 X K c _ _ _ _ _) fun ⟨v1495, v1499, c1_i32_1142⟩ => ?_
  refine step c (part47 X K c _ _ _ _ _ _) fun ⟨v1527, v1528, v1529, v1532⟩ => ?_
  refine step c (part48 X K c _ _ _ _ _ _ _ _ _ _) fun ⟨v1535, v1563, v1565⟩ => ?_
  refine (part49 X K c _ _ _ _ _ _).bind fun ⟨v1596, v1599⟩ hv => ?_
  refine (part50 X K c _ _ _ _ _ _ hv).bind fun v1628 hv => ?_
  refine step c (part51 X K c _ _ _ _ _ hv) fun _ => ?_
  refine step c (part52 X K c _ _ _) fun _ => ?_
  refine step c (part53 X K c) fun _ => ?_
  refine step c (part54 X K c) fun _ => ?_
  refine step c (part55 X K c) fun _ => ?_
  refine step c (part56 X K c) fun _ => ?_
  refine step c (part57 X K c) fun _ => ?_
  refine step c (part58 X K c) fun _ => ?_
  exact .pure c rfl

/-- The kernel on device `c`: from the state before the barrier to that in which every copy is over and every row stored. -/
theorem body : Triple c (Pre X K c 0) (onBufs (cc0_body (F := F))) (fun _ => True) (St X K c 33 33 33 33 33) := by
  rw [cc0_body_eq_skeleton]
  refine (part59 X K c).bind fun d hd => ?_
  subst hd
  exact back_piece X K d 30 <| back_piece X K d 31 <| back_piece X K d 32 <| .pure d trivial

end Cert.AllReduce

end
-- ==== Proof.Run.lean ====
/-
The run of the all-reduce kernel on all devices.

The devices' kernels, started together with every semaphore at zero, all end, whatever the order in which they take their
steps; then each device's result is `outC` of the inputs, its input is unchanged, and every semaphore is at zero.
-/
module

public import proofs.«01_k».proof.Proof.Deal
public import proofs.«01_k».proof.Proof.Body
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The launch's state: every semaphore at zero. -/
def s₀ : MemSt nD τ sig (Elt F) := ⟨m, fun _ => 0, ρ⟩

/-- The input of device `c`, as the pipeline stages it. -/
def inX (c : Dev nD) : S4096x1024.Idx → F .f32 :=
  (win0_0.blk (0 : Fin 1)).view.read (Elt F) (m ((c : Thread nD τ).loc main_arg0))

/-! ## The pipeline's one point -/

/-- What a device starts from, besides its buffers. -/
def start (c : Dev nD) : sProp 𝕄 := iprop((∃ K, Ctx (inX m) K) ∗ Tokens (F := F) c)
/-- What a device has before its kernel, the staged buffers aside. -/
def before_ (c : Dev nD) : sProp 𝕄 := iprop(start m c ∗ scratch (F := F) c)
/-- What it has after it. -/
def after_ (c : Dev nD) : sProp 𝕄 := iprop(scratch (F := F) c ∗ zeros (F := F) c)

/-- The pipeline's data on a device: the arrays, what the kernel makes of the staged result, and what it takes and leaves
    besides. -/
def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => outC (inX m) c
  Φ t := match t with
    | ⟨0, _⟩ => before_ m c
    | ⟨_ + 1, _⟩ => after_ c
  q _ := fullShare
  owed t := match t with
    | ⟨0, _⟩ => oweB c 0
    | ⟨_ + 1, _⟩ => 0

/-- A staging buffer at known contents. -/
abbrev staged (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

/-- A staged buffer held whole. -/
theorem owns_staged (c : Dev nD) (b : Ref sig .tc) (f : b.ty.Contents (Elt F)) :
    (owns (Ix := Unit) (Name := ℕ) (U := UU) (Lvl := ℕ) (c : Thread nD τ) (Memref.whole b) fullShare f : sProp 𝕄) = staged c b f := by
  unfold owns
  simp only [Memref.view_whole, View.read_whole, View.set_whole]

/-- The input is fetched at the one grid point. -/
theorem fetched (t : Fin cfg0.N) : (cfg0.win (0 : Fin 2)).fetch t = true := by rw [fin_N0 t]; rfl

set_option maxRecDepth 40000 in
/-- All that a device has when its kernel is called. -/
def pointPre (c : Dev nD) : sProp 𝕄 :=
  iprop(before_ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))

/-- All that it has when its kernel returns. -/
def pointPost (c : Dev nD) : sProp 𝕄 :=
  iprop(after_ c ∗ (dats m 0 c).owesAt () t0_0.succ ∗ staged c cc0_stg0_0 (inX m c) ∗ staged c cc0_stg1_0 (outC (inX m) c))

set_option maxRecDepth 40000 in
/-- What a device has when its kernel is called is what the kernel's proof begins with. -/
theorem point_enter (c : Dev nD) : pointPre m c ⊢ iprop(∃ K, Pre (inX m) K c 0) := by
  unfold pointPre before_ start
  iintro ⟨⟨⟨⟨%K, HC⟩, Ht⟩, Hs⟩, Ho, ⟨%d0, %g0, %hg0, Hx⟩, ⟨%d1, %g1, %hg1, Hout⟩⟩
  have hx : g0 = inX m c := by rw [hg0]; unfold Dat.before; rw [if_pos (fetched t0_0)]; rfl
  subst hx
  unfold Dat.owesAt Pipeline.owesWithin
  icases Ho with ⟨%W, %hW, HO⟩
  rw [show (dats m 0 c).owed t0_0.castSucc = oweB c 0 from rfl]
  iexists K
  iapply (begin_body (inX m) K c g1)
  isplitl [HC]; · iexact HC
  isplitl [Ht]; · iexact Ht
  isplitl [Hs]; · iexact Hs
  isplitl [HO]
  · unfold owesSt; iexists W; iexact HO
  isplitl [Hx] <;> iassumption

set_option maxRecDepth 40000 in
/-- What the kernel's proof ends with is what the pipeline expects back. -/
theorem point_leave (K : Dev nD × J → ℕ) (c : Dev nD) : St (inX m) K c 33 33 33 33 33 ⊢ pointPost m c := by
  refine (finish (inX m) K c).trans ?_
  unfold pointPost after_ owesSt
  iintro ⟨Hx, Hout, Hs, ⟨%W, HO⟩, Hz⟩
  isplitl [Hs Hz]
  · isplitl [Hs] <;> iassumption
  isplitl [HO]
  · unfold Dat.owesAt Pipeline.owesWithin
    rw [show (dats m 0 c).owed t0_0.succ = 0 from rfl]
    iexists W
    isplitr; · ipureintro; exact fun _ _ => Or.inl trivial
    iexact HO
  isplitl [Hx]
  · iexists _; isplitr; · (ipureintro; rfl)
    iexact Hx
  iexists _; isplitr; · (ipureintro; rfl)
  iexact Hout

/-- The kernel's call on one device. -/
theorem point (c : Dev nD) : pointPre m c ⊢ wp frame (wpE (defs₀ (F := F)) 𝒱₀ (c : Thread nD τ) none) Set.univ (onBufs (cc0_body (F := F))) (fun _ => pointPost m c) := by
  refine (point_enter m c).trans ?_
  iintro ⟨%K, H⟩
  iapply ((show _ ⊢ _ from body (inX m) K c).trans (wp_mono _ _ _ fun _ => (show iprop(⌜True⌝ ∗ St (inX m) K c 33 33 33 33 33) ⊢ pointPost m c by
    iintro ⟨-, H⟩
    iapply (point_leave m K c)
    iexact H)))
  iexact H

set_option maxRecDepth 40000 in
/-- The same in the form that the pipeline's theorem takes. -/
theorem body_obligation (c : Dev nD) : BodyObligation (dats (F := F) m 0 c) (defs₀ (F := F)) 𝒱₀ () Set.univ := fun t => by
  rw [fin_N0 t]
  rw [bigSep_W0, bigSep_W0]
  simp only [owns_staged]
  exact point m c

/-! ## The launch -/

/-- The kernel's own semaphores are none of the pipeline's. -/
theorem osem_facts : Pipeline.OwnSemFacts cfg0.spec osem where
  isScoped := by decide +kernel
  inj := fun a b h => Option.some.inj (csem_injective h)
  disj := by decide +kernel

/-- The arrays are held in full. -/
theorem share_full (c : Dev nD) (w : Fin cfg0.W) : (dats m 0 c).share w = fullShare := by unfold Dat.share; split <;> rfl

/-- What the launch deals a device, as its run takes it. -/
theorem start_intro (c : Dev nD) :
    iprop(Pipeline.unscopedRestP Pipeline.Prefetch.none cfg0.spec c (fun b => m ((c : Thread nD τ).loc b)) ∗ levAts L lv
        ∗ Pipeline.launchCred (fun c => oweB c 0) c ∗ prngReg c (ρ c) ∗ Given (inX m) c)
      ⊢ |={Set.univ}=> iprop(start m c ∗ emp) := by
  unfold Given payTokens start Ctx Tokens
  iintro ⟨-, Hlev, Hcr, -, ⟨⟨%K, HI, HR⟩, Ha, Ht, Hb⟩⟩
  ihave Hc := (credits (F := F) c) $$ Hcr
  icases Hc with ⟨H3, HN⟩
  imodintro
  isplitl
  · isplitl [HI HR Hlev]
    · iexists K
      isplitl [HI]; · iexact HI
      isplitl [HR] <;> iassumption
    isplitl [Ha]; · iexact Ha
    isplitl [Ht]; · iexact Ht
    isplitl [Hb]; · iexact Hb
    isplitl [H3] <;> iassumption
  · iempintro

/-- What a device has at the start of its region. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before_ m c from rfl, scopedRest0_eq]
  unfold before_ scratch
  iintro ⟨Hs, -, Hr⟩
  isplitl [Hs]; · iexact Hs
  iexact Hr

/-- What it gives back at the end of it. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after_ c from rfl, scopedRest0_eq]
  unfold after_ scratch
  rw [← zeros_split]
  iintro ⟨Hr, Hu, Ho⟩
  isplitl [Hu]; · iexact Hu
  isplitl [Ho] <;> iassumption

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

/-- What a window's array holds in the end. -/
def lastA (c : Dev nD) (w : Fin cfg0.W) : Buf (Elt F) ((cfg0.win w).arr.view.loc (c : Thread nD τ)) := (dats m 0 c).arrAt w cfg0.N

/-- The final state: on every device the arrays are as the pipeline leaves them. -/
def Ends : PUnit × MemSt nD τ sig (Elt F) → Prop := fun r =>
  ∀ c : Dev nD, ∀ w : Fin cfg0.W, r.2.mem ((cfg0.win w).arr.view.loc (c : Thread nD τ)) = lastA m c w

set_option maxRecDepth 40000 in
/-- From any memory, with every semaphore at zero: every fair execution of the 32 devices ends, and then the arrays hold
    what `lastA` says and every semaphore is at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := fun c => oweB c 0) (howed₀ := fun _ => rfl) (howedN := fun _ => rfl)
    (L := L) (lv := lv) (hL := L_of_ne) (hwaits := waits m)
    (G := Dealt (inX m)) (G' := Given (inX m)) (u₀ := u₀)
    (hu₀ := by
      unfold u₀
      iintro Hu
      ihave H := (ownU_pair _ _) $$ Hu
      icases H with ⟨HP, HX⟩
      imod (deal (inX m)) $$ HX with HG
      imodintro
      isplitl [HP] <;> iassumption)
    (hglob := set_up (inX m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce

end
-- ==== Proof.Arrays.lean ====
/-
What the run leaves in the arrays.

The pipeline's two windows are the whole arrays, so the input is staged as it is and the result's array ends at `outC` of
the inputs.
-/
module

public import proofs.«01_k».proof.Proof.Run
public import proofs.«01_k».proof.Proof.Gen.KernelIdeal.Points

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-- What the input's array holds on device `c`. -/
def argX (c : Dev nD) : S4096x1024.Idx → F .f32 := m ((c : Thread nD τ).loc main_arg0)

/-- What the pipeline stages of the input is the input array. -/
theorem inX_eq : inX m = argX m := by
  funext c i
  show m ((c : Thread nD τ).loc main_arg0) _ = m ((c : Thread nD τ).loc main_arg0) i
  refine congrArg (m ((c : Thread nD τ).loc main_arg0)) (funext fun a => Fin.ext ?_)
  show 0 * S4096x1024.size a + 1 * (i a).val = _
  rw [Nat.zero_mul, Nat.zero_add, Nat.one_mul]

/-- What the pipeline writes back at its one grid point is the result buffer as the kernel leaves it. -/
theorem flushed_eq (c : Dev nD) (t : Fin cfg0.N) :
    (dats m 0 c).flushed 1 t = ((cfg0.win 1).blk t).view.read (Elt F) (outC (inX m) c) := by
  obtain rfl := fin_N0 t
  unfold Pipeline.Dat.flushed
  rw [show (dats m 0 c).after 1 t0_0 = outC (inX m) c from rfl]
  funext i
  refine congrArg (outC (inX m) c) (funext fun a => Fin.ext ?_)
  show (i a).val = 0 * S4096x1024.size a + 1 * (i a).val
  rw [Nat.zero_mul, Nat.zero_add, Nat.one_mul]

/-- Every element of the result array is written back. -/
theorem cover (i : S4096x1024.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  intro a
  show 0 * S4096x1024.size a ≤ (i a).val ∧ (i a).val < 0 * S4096x1024.size a + S4096x1024.size a
  rw [Nat.zero_mul, Nat.zero_add]
  exact ⟨Nat.zero_le _, (i a).isLt⟩

/-- The result's array ends at `outC` of the inputs, -/
theorem last_result (c : Dev nD) : lastA m c 1 = outC (argX m) c := by
  rw [← inX_eq]
  exact (dats m 0 c).arrAt_eq_of_cover 1 (outC (inX m) c) (fun t _ => flushed_eq m c t) cover
/-- and the input's as it was. -/
theorem last_input (c : Dev nD) : lastA m c 0 = argX m c := (dats (F := F) m 0 c).arrAt_in (0 : Fin 2) rfl _

/-- Every fair execution ends with `outC` of the inputs in each device's result, the inputs unchanged and every semaphore
    at zero. -/
theorem run_value : θ_run defs (onTc (τ := τ) (main (F := F))) ⟨m, fun _ => 0, ρ⟩ (fun r => (∀ c : Dev nD,
      r.2.mem ((c : Thread nD τ).loc main_v1) = outC (argX m) c ∧ r.2.mem ((c : Thread nD τ).loc main_arg0) = m ((c : Thread nD τ).loc main_arg0))
      ∧ r.2.sem = fun _ => 0) :=
  (θ_run defs _ _).mono (fun _ h => ⟨fun c => ⟨(h.1 c 1).trans (last_result m c), (h.1 c 0).trans (last_input m c)⟩, h.2⟩) (run_main m ρ)

end Cert.AllReduce

end
-- ==== Proof.Value.lean ====
/-
The value: in exact arithmetic the kernel's result is the reference's.

The devices with `x = 0` hold the first half of the whole array's rows and those with `x = 1` the second. A device and its
partner hold the two halves, so their sum at an element, in either order, is the reference's sum over the leading axis.
-/
module

public import proofs.«01_k».proof.Proof.Blocks
public import proofs.«01_k».proof.Proof.Gen.ReferenceIdeal
public import Idealize.ShloMosaic.Lib.IdealHost
public import Idealize.ShloMosaic.Lib.Layout
public import Idealize.ShloMosaic.Lib.Pointwise.Reduce
public import Idealize.ShloMosaic.Lib.Pointwise.Reshape
public import Idealize.ShloMosaic.PureOps.Ideal

@[expose] public section

noncomputable section

namespace Cert.AllReduce

open Cert.KernelIdeal Cert.KernelIdeal.Gen
open Idealize.ShloMosaic Idealize.ShloMosaic.TcCoe

/-- The `x` coordinate of a device. -/
def xOf (c : Dev nD) : Fin 2 := Fin.ofNat 2 (c.val / 16)

/-- A device's partner has the other coordinate. -/
theorem xOf_partner : ∀ c : Dev nD, xOf (partner c) = 1 - xOf c := by decide +kernel

/-- Where the element `i` of half `x` is in the whole array. -/
def wholeAt (x : Fin 2) (i : S4096x1024.Idx) : Cert.ReferenceIdeal.S8192x1024.Idx := fun a => match a with
  | ⟨0, _⟩ => ⟨x.val * 4096 + (i 0).val, by have h : (i 0).val < 4096 := (i 0).isLt; have := x.isLt; show _ < 8192; omega⟩
  | ⟨1, _⟩ => ⟨(i 1).val, (i 1).isLt⟩

/-- The sum of the two halves at an element. -/
def halfSum (W : Cert.ReferenceIdeal.S8192x1024.Idx → EReal) (i : S4096x1024.Idx) : EReal := W (wholeAt 0 i) + W (wholeAt 1 i)

section
variable (W : Cert.ReferenceIdeal.S8192x1024.Idx → EReal) (X : Dev nD → S4096x1024.Idx → Ideal .f32)

/-- A device and its partner add the two halves, the one or the other first. -/
theorem sumC_halves (hX : ∀ c i, X c i = W (wholeAt (xOf c) i)) (c : Dev nD) (i : S4096x1024.Idx) : sumC X c i = halfSum W i := by
  have h : sumC X c i = W (wholeAt (xOf c) i) + W (wholeAt (1 - xOf c) i) := by
    rw [← xOf_partner c, ← hX, ← hX]
    rfl
  rw [h]
  rcases (by decide : ∀ x : Fin 2, x = 0 ∨ x = 1) (xOf c) with e | e <;> rw [e]
  · rfl
  · exact add_comm _ _

/-- The kernel's result on every device. -/
theorem outC_halves (hX : ∀ c i, X c i = W (wholeAt (xOf c) i)) (c : Dev nD) : outC X c = halfSum W := by
  funext i
  unfold outC
  split <;> exact sumC_halves W X hX _ i

/-- A device's block of the whole array is its half. -/
theorem block_half (c : Dev nD) (i : S4096x1024.Idx) (h) :
    Layout.blockN ⟨2, ![4096, 1024]⟩ ⟨2, ![8192, 1024]⟩ (Layout.meshBlock [2, 4, 4] ![[0], []] c) W h i = W (wholeAt (xOf c) i) := by
  rw [Layout.blockN_apply]
  refine congrArg W (funext fun a => Fin.ext ?_)
  rw [Layout.TilesN.idx_val]
  have hx : ∀ c : Dev nD, Layout.meshLin [2, 4, 4] c.val [0] = (xOf c).val := by decide +kernel
  match a with
  | ⟨0, _⟩ =>
    show Layout.meshLin [2, 4, 4] c.val [0] * 4096 + (i 0).val = (xOf c).val * 4096 + (i 0).val
    rw [hx]
  | ⟨1, _⟩ =>
    show 0 * 1024 + (i 1).val = (i 1).val
    omega

/-- The whole array with its rows in two halves reads, at `(x, i)`, element `i` of half `x`. -/
theorem reshape_half (h : Cert.ReferenceIdeal.S8192x1024.ShapeCasts Cert.ReferenceIdeal.S2x4096x1024) (x : Fin 2) (i : S4096x1024.Idx) :
    shapeCast Cert.ReferenceIdeal.S2x4096x1024 W h (ix3 x (i 0) (i 1)) = W (wholeAt x i) := by
  show W _ = _
  refine congrArg W (Shape.reshapeEquiv_eq_of_rowMajor h ?_)
  refine (rowMajor_val2 (wholeAt x i) 1024 rfl).trans (.trans ?_ (rowMajor_val3 (ix3 x (i 0) (i 1)) (4096 * 1024) 1024 rfl rfl).symm)
  show (x.val * 4096 + (i 0).val) * 1024 + (i 1).val = x.val * (4096 * 1024) + (i 0).val * 1024 + (i 1).val
  ring

/-- The reference's result. -/
theorem reference_halves (h h' hu) :
    Host.reduceAdd (F := Ideal) (φ := .f32) (shapeCast Cert.ReferenceIdeal.S2x4096x1024 W h) (constant Cert.ReferenceIdeal.S_ .f32 0x00000000#32)
      (h' : Cert.ReferenceIdeal.S2x4096x1024.ReducesTo [0] Cert.ReferenceIdeal.S4096x1024) hu = halfSum W := by
  funext i
  rw [ValueIdx.hostReduceAdd_apply, Ideal.hostReduceAdd_r3_a0, Fin.sum_univ_two]
  show Ideal.ofBits .f32 0x00000000#32 + (shapeCast Cert.ReferenceIdeal.S2x4096x1024 W h (ix3 0 (i 0) (i 1)) + shapeCast Cert.ReferenceIdeal.S2x4096x1024 W h (ix3 1 (i 0) (i 1))) = _
  rw [Ideal.ofBits_zero_f32, zero_add, reshape_half, reshape_half]
  rfl

end

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two prints of the kernel have the same bodies. -/
theorem bodies_eq : (letI := Cert.Kernel.Gen.facts; Cert.Kernel.defs₀ (F := Bits)) = (letI := Cert.KernelIdeal.Gen.facts; Cert.KernelIdeal.defs₀ (F := Bits)) :=
  congrArg Defs.onTc (funext fun l => funext fun a => match l, a with
    | ⟨0, _⟩, (_, _) => rfl
    | ⟨_ + 1, h⟩, _ => absurd h (Nat.not_lt.2 (Nat.le_add_left _ _)))

/-- Their tables of bodies and calls are equal. -/
theorem tables_eq : (letI := Cert.Kernel.Gen.facts; Cert.Kernel.defs (F := Bits)) = (letI := Cert.KernelIdeal.Gen.facts; Cert.KernelIdeal.defs (F := Bits)) :=
  congrArg (Pipeline.defs _) bodies_eq

/-- The kernel, in the chip's arithmetic, runs to its end, keeps its argument and leaves every counter at zero. The run is
    proved once, over any float values, of the other print of the same text. -/
theorem frame_kernel : Cert.quiescent_Kernel := by
  intro m ρ _
  have h := (θ_run (letI := Cert.KernelIdeal.Gen.facts; Cert.KernelIdeal.defs (F := Bits)) _ _).mono
    (fun _ h => (⟨fun c => (h.1 c).2, h.2⟩ : _ ∧ _)) (Cert.AllReduce.run_value (F := Bits) m ρ)
  rw [← tables_eq] at h
  exact h

/-- The same in exact arithmetic. -/
theorem frame_ideal : Cert.quiescent_KernelIdeal := fun m ρ _ =>
  (θ_run Cert.KernelIdeal.defs _ _).mono (fun _ h => ⟨fun c => (h.1 c).2, h.2⟩) (Cert.AllReduce.run_value (F := Ideal) m ρ)

/-- The reference, a program without semaphores, runs to its end and keeps its argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation is rewritten between the two prints. -/
theorem preserves : Cert.preserves_Kernel_KernelIdeal := trivial

/-- In exact arithmetic every device's result is the reference's: the sum of the whole array's two halves. -/
theorem algebraic : Cert.algebraic_KernelIdeal_ReferenceIdeal := fun m g m' g' _ hag =>
  ⟨Cert.AllReduce.halfSum (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans
        (Cert.AllReduce.outC_halves _ _ (fun d i => (congrFun (hag d) i).trans (Cert.AllReduce.block_half _ d i _)) c), (h.1 c).2⟩)
      (Cert.AllReduce.run_value (F := Ideal) m g),
    (θ_run Cert.ReferenceIdeal.defs _ _).mono (fun _ h => ⟨(h 0).1.trans (Cert.AllReduce.reference_halves _ _ _ _), (h 0).2⟩)
      (Cert.ReferenceIdeal.Value.run (F := Ideal) m' g')⟩

/-- The five claims together, after the facts that each program states. -/
theorem claim : Cert.Claim := ⟨Cert.Kernel.Gen.facts, Cert.KernelIdeal.Gen.facts, Cert.ReferenceIdeal.Gen.facts,
  frame_kernel, frame_ideal, frame_reference, preserves, algebraic⟩

end Cert.Proof

end
